-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x2 32) (main_arg3 : FVec F S8x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .f32 := Host.absf main_arg0
  let main_cst : FVec F S_ .f32 := constant S_ .f32 0x7F800000#32
  let main_v7 : FVec F S2048x512 .f32 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : FVec F S512x32 .f32 := Host.absf main_arg1
  let main_cst_3 : FVec F S_ .f32 := constant S_ .f32 0x7F800000#32
  let main_v11 : FVec F S512x32 .f32 := broadcastInDim S512x32 ![] bcast_S_S512x32 main_cst_3
  let main_v12 : IVec S512x32 1 := cmpf .olt main_v10 main_v11
  let main_c_4 : IVec S_ 1 := constantI S_ 1 1#1
  let main_v13 : IVec S_ 1 := (fun x v => Host.reduce IntOp.andi x v reducesTo_S512x32_S_d0_1 h_S_) main_v12 main_c_4
  let main_v14 : IVec S_ 1 := andi main_v9 main_v13
  let main_v15 : IVec S_ 1 := andi main_v5 main_v14
  main_v15
-- ==== Pre_routable_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x2 32) (main_arg3 : FVec F S32x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .f32 := Host.absf main_arg0
  let main_cst : FVec F S_ .f32 := constant S_ .f32 0x7F800000#32
  let main_v7 : FVec F S2048x512 .f32 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : FVec F S512x32 .f32 := Host.absf main_arg1
  let main_cst_3 : FVec F S_ .f32 := constant S_ .f32 0x7F800000#32
  let main_v11 : FVec F S512x32 .f32 := broadcastInDim S512x32 ![] bcast_S_S512x32 main_cst_3
  let main_v12 : IVec S512x32 1 := cmpf .olt main_v10 main_v11
  let main_c_4 : IVec S_ 1 := constantI S_ 1 1#1
  let main_v13 : IVec S_ 1 := (fun x v => Host.reduce IntOp.andi x v reducesTo_S512x32_S_d0_1 h_S_) main_v12 main_c_4
  let main_v14 : IVec S_ 1 := andi main_v9 main_v13
  let main_v15 : IVec S_ 1 := andi main_v5 main_v14
  main_v15
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S512x1024 : Shape := ⟨2, ![512, 1024]⟩
abbrev S2048x8 : Shape := ⟨2, ![2048, 8]⟩
abbrev S6x256x1024 : Shape := ⟨3, ![6, 256, 1024]⟩
abbrev S6 : Shape := ⟨1, ![6]⟩
abbrev S_ : Shape := ⟨0, ![]⟩
abbrev S2048x32 : Shape := ⟨2, ![2048, 32]⟩
abbrev S2048 : Shape := ⟨1, ![2048]⟩
abbrev S2048x1 : Shape := ⟨2, ![2048, 1]⟩
abbrev S256x512 : Shape := ⟨2, ![256, 512]⟩
abbrev S256x8 : Shape := ⟨2, ![256, 8]⟩
abbrev S256x1024 : Shape := ⟨2, ![256, 1024]⟩
abbrev S1x512x1024 : Shape := ⟨3, ![1, 512, 1024]⟩
abbrev S256x1 : Shape := ⟨2, ![256, 1]⟩
abbrev S1x256x1024 : Shape := ⟨3, ![1, 256, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S8x512x1024, .f32⟩
  | .hbm, ⟨4, _⟩ => ⟨S512x1024, .f32⟩
  | .local _ .vmem, ⟨0, _⟩ => ⟨S2048x512, .f32⟩
  | .local _ .vmem, ⟨1, _⟩ => ⟨S512x32, .f32⟩
  | .local _ .vmem, ⟨2, _⟩ => ⟨S2048x2, .i32⟩
  | .local _ .vmem, ⟨3, _⟩ => ⟨S8x512x1024, .f32⟩
  | .local _ .vmem, ⟨4, _⟩ => ⟨S512x1024, .f32⟩
  | .local _ .vmem, ⟨5, _⟩ => ⟨S2048x8, .f32⟩
  | .local _ .vmem, ⟨6, _⟩ => ⟨S8x512x1024, .bf16⟩
  | .local _ .vmem, ⟨7, _⟩ => ⟨S6x256x1024, .bf16⟩
  | .local _ .vmem, ⟨8, _⟩ => ⟨S6x256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_63 : BitVec 32) (c0_i32_65 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : BitVec 32 := Scalar.addi v2 c1_i32_63
  let c4_i32_64 : BitVec 32 := 4#32
  let v169 : BitVec 32 := Scalar.remsi v168 c4_i32_64
  let c512_i32 : BitVec 32 := 512#32
  let v170 : BitVec 32 := Scalar.muli v169 c512_i32
  let v171 : BitVec 32 := Scalar.addi v170 c0_i32_65
  let v172 : Index := Scalar.indexCast v171
  let c0_66 : Index := 0#32
  ![v172.toNat, 0]
def k0_off2 (d0 : Dev nD) (c1_i32_63 : BitVec 32) (c0_i32_65 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : BitVec 32 := Scalar.addi v2 c1_i32_63
  let c4_i32_64 : BitVec 32 := 4#32
  let v169 : BitVec 32 := Scalar.remsi v168 c4_i32_64
  let c512_i32 : BitVec 32 := 512#32
  let v170 : BitVec 32 := Scalar.muli v169 c512_i32
  let v171 : BitVec 32 := Scalar.addi v170 c0_i32_65
  let v176 : Index := Scalar.indexCast v171
  let c0_67 : Index := 0#32
  ![v176.toNat, 0]
def k0_dev4 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v168 : BitVec 32 := Scalar.addi v2 c1_i32_63
  let c4_i32_64 : BitVec 32 := 4#32
  let v169 : BitVec 32 := Scalar.remsi v168 c4_i32_64
  let c1_i32_156 : BitVec 32 := 1#32
  let v287 : BitVec 32 := Scalar.muli v169 c1_i32_156
  let v288 : BitVec 32 := Scalar.addi c0_i32_157 v287
  v288.toNat
def k0_dev5 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v168 : BitVec 32 := Scalar.addi v2 c1_i32_63
  let c4_i32_64 : BitVec 32 := 4#32
  let v169 : BitVec 32 := Scalar.remsi v168 c4_i32_64
  let c1_i32_205 : BitVec 32 := 1#32
  let v366 : BitVec 32 := Scalar.muli v169 c1_i32_205
  let v367 : BitVec 32 := Scalar.addi c0_i32_206 v366
  v367.toNat
def k0_dev6 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_211 : BitVec 32 := 3#32
  let v376 : BitVec 32 := Scalar.addi v2 c3_i32_211
  let c4_i32_212 : BitVec 32 := 4#32
  let v377 : BitVec 32 := Scalar.remsi v376 c4_i32_212
  let c1_i32_257 : BitVec 32 := 1#32
  let v447 : BitVec 32 := Scalar.muli v377 c1_i32_257
  let v448 : BitVec 32 := Scalar.addi c0_i32_258 v447
  v448.toNat
def k0_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_211 : BitVec 32 := 3#32
  let v376 : BitVec 32 := Scalar.addi v2 c3_i32_211
  let c4_i32_212 : BitVec 32 := 4#32
  let v377 : BitVec 32 := Scalar.remsi v376 c4_i32_212
  let c1_i32_307 : BitVec 32 := 1#32
  let v526 : BitVec 32 := Scalar.muli v377 c1_i32_307
  let v527 : BitVec 32 := Scalar.addi c0_i32_308 v526
  v527.toNat
def k0_dev8 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_313 : BitVec 32 := 2#32
  let v536 : BitVec 32 := Scalar.addi v2 c2_i32_313
  let c4_i32_314 : BitVec 32 := 4#32
  let v537 : BitVec 32 := Scalar.remsi v536 c4_i32_314
  let c1_i32_359 : BitVec 32 := 1#32
  let v607 : BitVec 32 := Scalar.muli v537 c1_i32_359
  let v608 : BitVec 32 := Scalar.addi c0_i32_360 v607
  v608.toNat
def k0_dev9 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_313 : BitVec 32 := 2#32
  let v536 : BitVec 32 := Scalar.addi v2 c2_i32_313
  let c4_i32_314 : BitVec 32 := 4#32
  let v537 : BitVec 32 := Scalar.remsi v536 c4_i32_314
  let c1_i32_409 : BitVec 32 := 1#32
  let v686 : BitVec 32 := Scalar.muli v537 c1_i32_409
  let v687 : BitVec 32 := Scalar.addi c0_i32_410 v686
  v687.toNat
def k0_off3 (d0 : Dev nD) (c0_i32_416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_415 : BitVec 32 := 512#32
  let v696 : BitVec 32 := Scalar.muli v2 c512_i32_415
  let v697 : BitVec 32 := Scalar.addi v696 c0_i32_416
  let v698 : Index := Scalar.indexCast v697
  let c0_417 : Index := 0#32
  ![v698.toNat, 0]
def k0_off4 (d0 : Dev nD) (c0_i32_416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_415 : BitVec 32 := 512#32
  let v696 : BitVec 32 := Scalar.muli v2 c512_i32_415
  let v697 : BitVec 32 := Scalar.addi v696 c0_i32_416
  let v702 : Index := Scalar.indexCast v697
  let c0_418 : Index := 0#32
  ![v702.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S32x512x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S2048x1, .i32⟩
  | .hbm, ⟨51, _⟩ => ⟨S2048x1x1, .i32⟩
  | .hbm, ⟨52, _⟩ => ⟨S1, .i32⟩
  | .hbm, ⟨53, _⟩ => ⟨S_, .i32⟩
  | .hbm, ⟨54, _⟩ => ⟨S2048x1x1, .i32⟩
  | .hbm, ⟨55, _⟩ => ⟨S2048x1x1, .i1⟩
  | .hbm, ⟨56, _⟩ => ⟨S1x1x1, .i32⟩
  | .hbm, ⟨57, _⟩ => ⟨S2048x1x1, .i32⟩
  | .hbm, ⟨58, _⟩ => ⟨S2048x1x1, .i1⟩
  | .hbm, ⟨59, _⟩ => ⟨S2048x1x1, .i1⟩
  | .hbm, ⟨60, _⟩ => ⟨S_, .i1⟩
  | .hbm, ⟨61, _⟩ => ⟨S2048x1, .i1⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x512x1024, .f32⟩
  | .hbm, ⟨76, _⟩ => ⟨S2048x1024, .f32⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x512x1024, .f32⟩
  | .hbm, ⟨86, _⟩ => ⟨S2048x1024, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.Blocks.lean ====
/-
What one block of the kernel computes, as functions of the values it reads: the softmax numerators and their row sums, a
token's two chosen probabilities, one column of gates, one expert's contribution to a half block of 256 tokens, the sum
of a device's eight experts, and the payloads of the program's text in those words.
-/
module

public import proofs.«01_k».proof.Proof.Gen.KernelIdeal
public import proofs.«01_k».proof.Proof.Gen.KernelIdeal.Skeleton

@[expose] public section

noncomputable section

namespace Cert.KernelIdeal.Moe

open Cert.KernelIdeal Cert.KernelIdeal.Gen
open Idealize.ShloMosaic Idealize.SL.Sem

variable {F : FTy → Type} [FloatOps F]

/-! ## Gates -/

/-- The number of device `d`'s `j`-th expert, as the kernel computes it: `8 · d + j`. -/
def expertWord (d : Dev nD) (j : BitVec 32) : BitVec 32 :=
  Scalar.addi (Scalar.muli (Scalar.remsi (Scalar.divsi (Dev.word d) 1#32) 4#32) 8#32) j

/-- The probability of a token's first choice (its row of the softmax at column `i0`). -/
def prob0 (xv : Vec F S2048x512 .f32) (rw : Vec F S512x32 .f32) (i0 : Vec F S2048x1 .i32) : FVec F S2048x1 .f32 :=
  k0_pay6 (k0_pay1 xv rw) (k0_pay2 xv rw) i0

/-- The probability of a token's second choice. -/
def prob1 (xv : Vec F S2048x512 .f32) (rw : Vec F S512x32 .f32) (i1 : Vec F S2048x1 .i32) : FVec F S2048x1 .f32 :=
  k0_pay7 (k0_pay1 xv rw) (k0_pay2 xv rw) i1

/-- The gates of expert number `w`: for every token the probabilities of those of its two choices that are `w`, over
    the sum of its two probabilities. -/
def gateCol (w : BitVec 32) (xv : Vec F S2048x512 .f32) (rw : Vec F S512x32 .f32) (i0 i1 : Vec F S2048x1 .i32) : FVec F S2048x1 .f32 :=
  shapeCast S2048x1
    (divf (addf
        (select (cmpi .eq (k0_pay4 i0) (broadcast S2048x1 w)) (prob0 xv rw i0) (broadcast S2048x1 (Scalar.ofBits .f32 0x00000000#32)))
        (select (cmpi .eq (k0_pay5 i1) (broadcast S2048x1 w)) (prob1 xv rw i1) (broadcast S2048x1 (Scalar.ofBits .f32 0x00000000#32))))
      (addf (prob0 xv rw i0) (prob1 xv rw i1))) shapeCasts_S2048x1_S2048x1

/-! ## One half block -/

/-- One expert's contribution to 256 tokens: the tokens times its weights, each row scaled by its gate. -/
def expertTerm (xb : FVec F S256x512 .bf16) (w : Vec F S1x512x1024 .bf16) (g : FVec F S256x1 .f32) : FVec F S256x1024 .f32 :=
  mulf (matmul dot_S256x512_S512x1024_S256x1024_1_0_0_1_n_n none xb (shapeCast S512x1024 w shapeCasts_S1x512x1024_S512x1024)
      (constant S256x1024 .f32 0x00000000#32))
    (broadcastTo S256x1024 g broadcasts_S256x1_S256x1024)

/-- The tokens of a half block at the matrix unit's operand format. -/
def tokens (xv : Vec F S256x512 .f32) : FVec F S256x512 .bf16 :=
  truncf .bf16 (shapeCast S256x512 xv shapeCasts_S256x512_S256x512) bitsLt_bf16_f32

/-- The sum over a device's eight experts of their contributions to a half block, in the program's order. -/
def halfSum (xv : Vec F S256x512 .f32) (g : Vec F S256x8 .f32) (w : Fin 8 → Vec F S1x512x1024 .bf16) : FVec F S256x1024 .f32 :=
  addf (addf (addf (addf (addf (addf (addf (addf
    (broadcast S256x1024 (Scalar.ofBits .f32 0x00000000#32))
    (expertTerm (tokens xv) (w 0) (extractStridedSlice S256x1 ![0, 0] g slices_S256x8_o0_0_S256x1)))
    (expertTerm (tokens xv) (w 1) (extractStridedSlice S256x1 ![0, 1] g slices_S256x8_o0_1_S256x1)))
    (expertTerm (tokens xv) (w 2) (extractStridedSlice S256x1 ![0, 2] g slices_S256x8_o0_2_S256x1)))
    (expertTerm (tokens xv) (w 3) (extractStridedSlice S256x1 ![0, 3] g slices_S256x8_o0_3_S256x1)))
    (expertTerm (tokens xv) (w 4) (extractStridedSlice S256x1 ![0, 4] g slices_S256x8_o0_4_S256x1)))
    (expertTerm (tokens xv) (w 5) (extractStridedSlice S256x1 ![0, 5] g slices_S256x8_o0_5_S256x1)))
    (expertTerm (tokens xv) (w 6) (extractStridedSlice S256x1 ![0, 6] g slices_S256x8_o0_6_S256x1)))
    (expertTerm (tokens xv) (w 7) (extractStridedSlice S256x1 ![0, 7] g slices_S256x8_o0_7_S256x1))

/-- A half block as it is sent: rounded to the wire's format, under a leading axis of one. -/
def packed (v : FVec F S256x1024 .f32) : FVec F S1x256x1024 .bf16 :=
  shapeCast S1x256x1024 (truncf .bf16 v bitsLt_bf16_f32) shapeCasts_S256x1024_S1x256x1024

/-- A received half block, widened again. -/
def unpacked (v : Vec F S1x256x1024 .bf16) : FVec F S256x1024 .f32 :=
  extf .f32 (shapeCast S256x1024 v shapeCasts_S1x256x1024_S256x1024) bitsLt_bf16_f32

/-- One expert's weights at the matrix unit's operand format. -/
def weight (v : Vec F S1x512x1024 .f32) : FVec F S1x512x1024 .bf16 := k0_pay22 v

/-- A half block of the result: the device's own sum and the three received ones, in the order they are added. -/
def gathered (own : FVec F S256x1024 .f32) (a b c : Vec F S1x256x1024 .bf16) : FVec F S256x1024 .f32 :=
  addf (addf (addf own (unpacked a)) (unpacked b)) (unpacked c)

end Cert.KernelIdeal.Moe

end
-- ==== Proof.Contents.lean ====
/-
What the kernel's arrays hold: the arguments as device `c` reads them, its gates and its expert weights at the matrix
unit's format, the half blocks it sends and receives, and its block of the result — each one function of the arguments
of the devices it depends on — with the reads and the writes of the program's text that meet them.
-/
module

public import proofs.«01_k».proof.Proof.Blocks
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F]

/-! ## Peers -/

/-- The device `k` places on around the mesh. -/
def around (k : Nat) (c : Dev nD) : Dev nD := ⟨(c.val + k) % 4, Nat.mod_lt _ (by decide)⟩

/-- The peer that device `c` sends its `k`-th pair of half blocks to. -/
def tgt (k : Fin 3) (c : Dev nD) : Dev nD := match k with | 0 => around 1 c | 1 => around 3 c | 2 => around 2 c
/-- The peer whose `k`-th pair of half blocks device `c` receives. -/
def src (k : Fin 3) (c : Dev nD) : Dev nD := match k with | 0 => around 3 c | 1 => around 1 c | 2 => around 2 c

theorem src_tgt (k : Fin 3) (c : Dev nD) : src k (tgt k c) = c := by revert k c; decide
theorem tgt_src (k : Fin 3) (c : Dev nD) : tgt k (src k c) = c := by revert k c; decide

/-- The devices one peer relation permutes. -/
def hop (k : Fin 3) : Dev nD ≃ Dev nD := ⟨tgt k, src k, src_tgt k, tgt_src k⟩

/-- The pair a slot belongs to. -/
def grp (s : Fin 6) : Fin 3 := ⟨s.val / 2, by omega⟩
/-- The half of its pair's block a slot carries. -/
def hlf (s : Fin 6) : Fin 2 := ⟨s.val % 2, by omega⟩

/-! ## Memrefs and boxes -/

abbrev xM : Memref sig .tc .vmem S2048x512 .f32 := Memref.whole cc0_stg0_0
abbrev rM : Memref sig .tc .vmem S512x32 .f32 := Memref.whole cc0_stg1_0
abbrev iM : Memref sig .tc .vmem S2048x2 .i32 := Memref.whole cc0_stg2_0
abbrev wM : Memref sig .tc .vmem S8x512x1024 .f32 := Memref.whole cc0_stg3_0
abbrev oM : Memref sig .tc .vmem S512x1024 .f32 := Memref.whole cc0_stg4_0
abbrev gM : Memref sig .tc .vmem S2048x8 .f32 := Memref.whole cc0_scratch0
abbrev eM : Memref sig .tc .vmem S8x512x1024 .bf16 := Memref.whole cc0_scratch1
abbrev sM : Memref sig .tc .vmem S6x256x1024 .bf16 := Memref.whole cc0_scratch2
abbrev vM : Memref sig .tc .vmem S6x256x1024 .bf16 := Memref.whole cc0_scratch3

theorem slot_inb (s : Fin 6) : ∀ a, (![s.val, 0, 0] : Fin 3 → Nat) a + S1x256x1024.size a ≤ S6x256x1024.size a := by revert s; decide
theorem row_inb (j : Fin 8) : ∀ a, (![j.val, 0, 0] : Fin 3 → Nat) a + S1x512x1024.size a ≤ S8x512x1024.size a := by revert j; decide
theorem col_inb (j : Fin 8) : ∀ a, (![0, j.val] : Fin 2 → Nat) a + S2048x1.size a ≤ S2048x8.size a := by revert j; decide
theorem rowsX_inb (p : Dev nD) (h : Fin 2) : ∀ a, (![512 * p.val + 256 * h.val, 0] : Fin 2 → Nat) a + S256x512.size a ≤ S2048x512.size a := by revert p h; decide
theorem rowsG_inb (p : Dev nD) (h : Fin 2) : ∀ a, (![512 * p.val + 256 * h.val, 0] : Fin 2 → Nat) a + S256x8.size a ≤ S2048x8.size a := by revert p h; decide
theorem half_inb (h : Fin 2) : ∀ a, (![256 * h.val, 0] : Fin 2 → Nat) a + S256x1024.size a ≤ S512x1024.size a := by revert h; decide

/-- Slot `s` of a communication buffer; -/
abbrev slotR (s : Fin 6) : Rect S6x256x1024 := Rect.unit (s := S6x256x1024) ![s.val, 0, 0] S1x256x1024.size (slot_inb s)
/-- expert `j`'s matrix; -/
abbrev rowR (j : Fin 8) : Rect S8x512x1024 := Rect.unit (s := S8x512x1024) ![j.val, 0, 0] S1x512x1024.size (row_inb j)
/-- gate column `j`; -/
abbrev colR (j : Fin 8) : Rect S2048x8 := Rect.unit (s := S2048x8) ![0, j.val] S2048x1.size (col_inb j)
/-- device `p`'s half `h` of the tokens, -/
abbrev rowsX (p : Dev nD) (h : Fin 2) : Rect S2048x512 := Rect.unit (s := S2048x512) ![512 * p.val + 256 * h.val, 0] S256x512.size (rowsX_inb p h)
/-- and of their gates; -/
abbrev rowsG (p : Dev nD) (h : Fin 2) : Rect S2048x8 := Rect.unit (s := S2048x8) ![512 * p.val + 256 * h.val, 0] S256x8.size (rowsG_inb p h)
/-- a half of a device's block of the result. -/
abbrev halfR (h : Fin 2) : Rect S512x1024 := Rect.unit (s := S512x1024) ![256 * h.val, 0] S256x1024.size (half_inb h)

/-- A slot as a transfer names it: a matrix. -/
abbrev slotM (M : Memref sig .tc .vmem S6x256x1024 .bf16) (s : Fin 6) : Memref sig .tc .vmem S256x1024 .bf16 :=
  (M.slice (slotR s) (fun _ => rfl)).squeeze S256x1024 squeezes_S1x256x1024_S256x1024

/-! ## Indices -/

/-- An index of a slot's box from one of the whole buffer: the slot's number dropped. -/
def inSlot (i : S6x256x1024.Idx) : S1x256x1024.Idx := fun a => match a with
  | ⟨0, _⟩ => ⟨0, Nat.one_pos⟩ | ⟨1, _⟩ => ⟨(i 1).val, (i 1).isLt⟩ | ⟨2, _⟩ => ⟨(i 2).val, (i 2).isLt⟩
/-- An index of one expert's matrix from one of the eight. -/
def inRow (i : S8x512x1024.Idx) : S1x512x1024.Idx := fun a => match a with
  | ⟨0, _⟩ => ⟨0, Nat.one_pos⟩ | ⟨1, _⟩ => ⟨(i 1).val, (i 1).isLt⟩ | ⟨2, _⟩ => ⟨(i 2).val, (i 2).isLt⟩
/-- An index of a column from one of the eight columns. -/
def inCol (i : S2048x8.Idx) : S2048x1.Idx := fun a => match a with
  | ⟨0, _⟩ => ⟨(i 0).val, (i 0).isLt⟩ | ⟨1, _⟩ => ⟨0, Nat.one_pos⟩
/-- The half of a block an index lies in, and the index in that half. -/
def halfOf (i : S512x1024.Idx) : Fin 2 := ⟨(i 0).val / 256, by have := (i 0).isLt; change (i 0).val < 512 at this; omega⟩
def inHalf (i : S512x1024.Idx) : S256x1024.Idx := fun a => match a with
  | ⟨0, _⟩ => ⟨(i 0).val % 256, Nat.mod_lt _ (by decide)⟩ | ⟨1, _⟩ => ⟨(i 1).val, (i 1).isLt⟩

/-- The number of the slot an index lies in. -/
def slotOf (i : S6x256x1024.Idx) : Fin 6 := ⟨(i 0).val, (i 0).isLt⟩
def rowOf (i : S8x512x1024.Idx) : Fin 8 := ⟨(i 0).val, (i 0).isLt⟩
def colOf (i : S2048x8.Idx) : Fin 8 := ⟨(i 1).val, (i 1).isLt⟩

theorem slotOf_emb (s : Fin 6) (x : S1x256x1024.Idx) : slotOf ((slotR s).emb x) = s := by
  have := (x 0).isLt; change (x 0).val < 1 at this
  refine Fin.ext ?_; show ((slotR s).emb x 0).val = s.val
  rw [Rect.emb_apply]; show s.val + 1 * (x 0).val = s.val; omega
theorem inSlot_emb (s : Fin 6) (x : S1x256x1024.Idx) : inSlot ((slotR s).emb x) = x := by
  have := (x 0).isLt; change (x 0).val < 1 at this
  funext a; refine Fin.ext ?_
  match a with
  | ⟨0, _⟩ => show 0 = (x 0).val; omega
  | ⟨1, _⟩ => show ((slotR s).emb x 1).val = (x 1).val; rw [Rect.emb_apply]; show 0 + 1 * (x 1).val = _; omega
  | ⟨2, _⟩ => show ((slotR s).emb x 2).val = (x 2).val; rw [Rect.emb_apply]; show 0 + 1 * (x 2).val = _; omega
theorem rowOf_emb (j : Fin 8) (x : S1x512x1024.Idx) : rowOf ((rowR j).emb x) = j := by
  have := (x 0).isLt; change (x 0).val < 1 at this
  refine Fin.ext ?_; show ((rowR j).emb x 0).val = j.val
  rw [Rect.emb_apply]; show j.val + 1 * (x 0).val = j.val; omega
theorem inRow_emb (j : Fin 8) (x : S1x512x1024.Idx) : inRow ((rowR j).emb x) = x := by
  have := (x 0).isLt; change (x 0).val < 1 at this
  funext a; refine Fin.ext ?_
  match a with
  | ⟨0, _⟩ => show 0 = (x 0).val; omega
  | ⟨1, _⟩ => show ((rowR j).emb x 1).val = (x 1).val; rw [Rect.emb_apply]; show 0 + 1 * (x 1).val = _; omega
  | ⟨2, _⟩ => show ((rowR j).emb x 2).val = (x 2).val; rw [Rect.emb_apply]; show 0 + 1 * (x 2).val = _; omega
theorem colOf_emb (j : Fin 8) (x : S2048x1.Idx) : colOf ((colR j).emb x) = j := by
  have := (x 1).isLt; change (x 1).val < 1 at this
  refine Fin.ext ?_; show ((colR j).emb x 1).val = j.val
  rw [Rect.emb_apply]; show j.val + 1 * (x 1).val = j.val; omega
theorem inCol_emb (j : Fin 8) (x : S2048x1.Idx) : inCol ((colR j).emb x) = x := by
  have := (x 1).isLt; change (x 1).val < 1 at this
  funext a; refine Fin.ext ?_
  match a with
  | ⟨0, _⟩ => show ((colR j).emb x 0).val = (x 0).val; rw [Rect.emb_apply]; show 0 + 1 * (x 0).val = _; omega
  | ⟨1, _⟩ => show 0 = (x 1).val; omega
theorem halfOf_emb (h : Fin 2) (x : S256x1024.Idx) : halfOf ((halfR h).emb x) = h := by
  have := (x 0).isLt; change (x 0).val < 256 at this
  refine Fin.ext ?_; show ((halfR h).emb x 0).val / 256 = h.val
  rw [Rect.emb_apply]; show (256 * h.val + 1 * (x 0).val) / 256 = h.val; omega
theorem inHalf_emb (h : Fin 2) (x : S256x1024.Idx) : inHalf ((halfR h).emb x) = x := by
  have := (x 0).isLt; change (x 0).val < 256 at this
  funext a; refine Fin.ext ?_
  match a with
  | ⟨0, _⟩ => show ((halfR h).emb x 0).val % 256 = (x 0).val; rw [Rect.emb_apply]; show (256 * h.val + 1 * (x 0).val) % 256 = _; omega
  | ⟨1, _⟩ => show ((halfR h).emb x 1).val = (x 1).val; rw [Rect.emb_apply]; show 0 + 1 * (x 1).val = _; omega

/-- Every index lies in its slot's box, row's, column's and half's. -/
theorem emb_inSlot (i : S6x256x1024.Idx) : (slotR (slotOf i)).emb (inSlot i) = i := by
  funext a; refine Fin.ext ?_; rw [Rect.emb_apply]
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega
theorem emb_inRow (i : S8x512x1024.Idx) : (rowR (rowOf i)).emb (inRow i) = i := by
  funext a; refine Fin.ext ?_; rw [Rect.emb_apply]
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega
theorem emb_inCol (i : S2048x8.Idx) : (colR (colOf i)).emb (inCol i) = i := by
  funext a; refine Fin.ext ?_; rw [Rect.emb_apply]
  match a with
  | ⟨0, _⟩ => show 0 + 1 * (i 0).val = (i 0).val; omega
  | ⟨1, _⟩ => show (i 1).val + 1 * 0 = (i 1).val; omega
theorem emb_inHalf (i : S512x1024.Idx) : (halfR (halfOf i)).emb (inHalf i) = i := by
  funext a; refine Fin.ext ?_; rw [Rect.emb_apply]
  match a with
  | ⟨0, _⟩ => show 256 * ((i 0).val / 256) + 1 * ((i 0).val % 256) = (i 0).val; omega
  | ⟨1, _⟩ => show 0 + 1 * (i 1).val = (i 1).val; omega

/-! ## What the arrays hold -/

variable (m : (ℓ : Loc nD τ sig) → Buf (Elt F) ℓ)

/-- Device `c`'s tokens, router matrix, choices and expert matrices, as its kernel finds them. -/
def xIn (c : Dev nD) : (cc0_stg0_0 : Ref sig .tc).ty.Contents (Elt F) := (win0_0.blk (0 : Fin 1)).view.read (Elt F) (m ((c : Thread nD τ).loc main_arg0))
def rIn (c : Dev nD) : (cc0_stg1_0 : Ref sig .tc).ty.Contents (Elt F) := (win0_1.blk (0 : Fin 1)).view.read (Elt F) (m ((c : Thread nD τ).loc main_arg1))
def iIn (c : Dev nD) : (cc0_stg2_0 : Ref sig .tc).ty.Contents (Elt F) := (win0_2.blk (0 : Fin 1)).view.read (Elt F) (m ((c : Thread nD τ).loc main_arg2))
def wIn (c : Dev nD) : (cc0_stg3_0 : Ref sig .tc).ty.Contents (Elt F) := (win0_3.blk (0 : Fin 1)).view.read (Elt F) (m ((c : Thread nD τ).loc main_arg3))

/-- The two columns of choices. -/
def i0In (c : Dev nD) : Vec F S2048x1 .i32 := iM.view.readAt (Elt F) (Rect.unit (s := S2048x2) ![0, 0] S2048x1.size inb_S2048x2_S2048x1_0_0).toLoadRect (iIn m c)
def i1In (c : Dev nD) : Vec F S2048x1 .i32 := iM.view.readAt (Elt F) (Rect.unit (s := S2048x2) ![0, 1] S2048x1.size inb_S2048x2_S2048x1_0_1).toLoadRect (iIn m c)

/-- The gates of device `c`'s `j`-th expert, -/
def gateAt (c : Dev nD) (j : Fin 8) : FVec F S2048x1 .f32 := gateCol (expertWord c (BitVec.ofNat 32 j.val)) (xIn m c) (rIn m c) (i0In m c) (i1In m c)
/-- and of its eight, column by column. -/
def gates (c : Dev nD) : (cc0_scratch0 : Ref sig .tc).ty.Contents (Elt F) := fun i => gateAt m c (colOf i) (inCol i)

/-- Device `c`'s `j`-th expert matrix at the matrix unit's format, -/
def weightAt (c : Dev nD) (j : Fin 8) : FVec F S1x512x1024 .bf16 := weight (wM.view.readAt (Elt F) (rowR j).toLoadRect (wIn m c))
/-- and its eight. -/
def weights (c : Dev nD) : (cc0_scratch1 : Ref sig .tc).ty.Contents (Elt F) := fun i => weightAt m c (rowOf i) (inRow i)

/-- What device `c`'s experts contribute to half `h` of device `p`'s tokens. -/
def share (c p : Dev nD) (h : Fin 2) : FVec F S256x1024 .f32 :=
  halfSum (xM.view.readAt (Elt F) (rowsX p h).toLoadRect (xIn m c)) (gM.view.readAt (Elt F) (rowsG p h).toLoadRect (gates m c)) (weightAt m c)

/-- What device `c` sends through slot `s`, -/
def slotVal (c : Dev nD) (s : Fin 6) : FVec F S1x256x1024 .bf16 := packed (share m c (tgt (grp s) c) (hlf s))
/-- through its six slots, -/
def sent (c : Dev nD) : (cc0_scratch2 : Ref sig .tc).ty.Contents (Elt F) := fun i => slotVal m c (slotOf i) (inSlot i)
/-- and what it receives: in each slot what the slot's sender sent. -/
def landed (c : Dev nD) : (cc0_scratch3 : Ref sig .tc).ty.Contents (Elt F) := fun i => slotVal m (src (grp (slotOf i)) c) (slotOf i) (inSlot i)

/-- Half `h` of device `c`'s block of the result, -/
def outHalf (c : Dev nD) (h : Fin 2) : FVec F S256x1024 .f32 := match h with
  | 0 => gathered (share m c c 0) (slotVal m (src 0 c) 0) (slotVal m (src 1 c) 2) (slotVal m (src 2 c) 4)
  | 1 => gathered (share m c c 1) (slotVal m (src 0 c) 1) (slotVal m (src 1 c) 3) (slotVal m (src 2 c) 5)
/-- and the block. -/
def outAt (c : Dev nD) : (cc0_stg4_0 : Ref sig .tc).ty.Contents (Elt F) := fun i => outHalf m c (halfOf i) (inHalf i)

/-! ## Reads -/

theorem hz2 : (![0, 0] : Fin 2 → Nat) = fun _ => 0 := funext fun a => by fin_cases a <;> rfl

omit [FloatOps F] in
theorem read_x (f : (cc0_stg0_0 : Ref sig .tc).ty.Contents (Elt F)) :
    xM.view.readAt (Elt F) (Rect.unit (s := S2048x512) ![0, 0] S2048x512.size inb_S2048x512_S2048x512_0_0).toLoadRect f = f :=
  Memref.readAt_unit_zero (Elt F) cc0_stg0_0 hz2 _ f
omit [FloatOps F] in
theorem read_r (f : (cc0_stg1_0 : Ref sig .tc).ty.Contents (Elt F)) :
    rM.view.readAt (Elt F) (Rect.unit (s := S512x32) ![0, 0] S512x32.size inb_S512x32_S512x32_0_0).toLoadRect f = f :=
  Memref.readAt_unit_zero (Elt F) cc0_stg1_0 hz2 _ f

/-- Reading a slot of the received half blocks, -/
theorem read_landed (c : Dev nD) (s : Fin 6) : vM.view.readAt (Elt F) (slotR s).toLoadRect (landed m c) = slotVal m (src (grp s) c) s := by
  funext x
  show landed m c ((slotR s).emb x) = _
  unfold landed; rw [slotOf_emb, inSlot_emb]
/-- an expert's matrix. -/
theorem read_weights (c : Dev nD) (j : Fin 8) : eM.view.readAt (Elt F) (rowR j).toLoadRect (weights m c) = weightAt m c j := by
  funext x
  show weights m c ((rowR j).emb x) = _
  unfold weights; rw [rowOf_emb, inRow_emb]

end Cert.KernelIdeal.Moe

end
-- ==== Proof.Protocol.lean ====
/-
The protocol between the four devices. Each device's barrier semaphore is signalled once by each of its three peers, and
each signal hands over the two receive slots of that peer which the device will write; each send semaphore is credited by
the device's own copy out of one send slot, which hands the slot back as it was sent; each receive semaphore is credited
by the copy of the slot's sender, which hands over the slot holding what the sender sent.
-/
module

public import proofs.«01_k».proof.Proof.Contents
public import Idealize.ShloMosaic.Lib.Tactic

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the rounds' algebra: duties are numbered by the three peers. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Cells -/

abbrev barS : Sem sig := (SemArray.scalar (sig.barrier 0 rfl) : Sems sig S_).sem
/-- The kernel's own semaphores: six send, then six receive. -/
abbrev osem (j : Fin 12) : SemLoc sig := .dma ⟨5 + j.val, by have := j.isLt; show 5 + j.val < 17; omega⟩
/-- The protocol's thirteen: the barrier, and those. -/
abbrev csem : Option (Fin 12) → SemLoc sig | none => .reg barS | some j => osem j

abbrev sIx (s : Fin 6) : Fin 12 := ⟨s.val, by omega⟩
abbrev vIx (s : Fin 6) : Fin 12 := ⟨6 + s.val, by omega⟩

abbrev kcell (ck : Dev nD × Option (Fin 12)) : GSem nD τ sig := ((ck.1 : Thread nD τ), csem ck.2)
abbrev barCell (c : Dev nD) : GSem nD τ sig := kcell (c, none)
abbrev sendCell (s : Fin 6) (c : Dev nD) : GSem nD τ sig := kcell (c, some (sIx s))
abbrev recvCell (s : Fin 6) (c : Dev nD) : GSem nD τ sig := kcell (c, some (vIx s))

/-- A slot's credit. -/
abbrev N : ℕ := (slotM vM 0).view.dmaCredit
theorem N_pos : 0 < N := View.dmaCredit_pos _ (by decide)

theorem csem_injective : Function.Injective csem := by
  intro a b h
  match a, b with
  | none, none => rfl
  | none, some j => cases h
  | some j, none => cases h
  | some i, some j =>
    have h' := congrArg (fun q : SemLoc sig => match q with | .dma q => q.val | .reg _ => 0) h
    have h'' : 5 + i.val = 5 + j.val := h'
    exact congrArg some (Fin.ext (Nat.add_left_cancel h''))
theorem kcell_injective : Function.Injective (kcell : Dev nD × Option (Fin 12) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## Slots -/

/-- The elements of slot `s`. -/
def slotSet (s : Fin 6) : Finset S6x256x1024.Idx := Finset.univ.filter fun i => slotOf i = s

theorem mem_slotSet {s : Fin 6} {i : S6x256x1024.Idx} : i ∈ slotSet s ↔ slotOf i = s := by simp [slotSet]
theorem slotR_set (s : Fin 6) : (slotR s).set = slotSet s := by
  rw [← Rect.map_emb_univ]
  ext i
  rw [mem_slotSet]
  constructor
  · intro h
    obtain ⟨x, -, rfl⟩ := Finset.mem_map.mp h
    exact slotOf_emb s x
  · rintro rfl
    exact Finset.mem_map.mpr ⟨inSlot i, Finset.mem_univ _, emb_inSlot i⟩
theorem set_sM (s : Fin 6) : (slotM sM s).view.set = slotSet s := by
  refine (View.set_reshape _ _).trans ?_
  refine (View.set_slice_whole cc0_scratch2 (slotR s)).trans (slotR_set s)
theorem set_vM (s : Fin 6) : (slotM vM s).view.set = slotSet s := by
  refine (View.set_reshape _ _).trans ?_
  refine (View.set_slice_whole cc0_scratch3 (slotR s)).trans (slotR_set s)
theorem access_sM (s : Fin 6) : (sM.access (slotR s)).set = slotSet s := by
  refine (View.set_slice_whole cc0_scratch2 (slotR s)).trans (slotR_set s)
theorem access_vM (s : Fin 6) : (vM.access (slotR s)).set = slotSet s := by
  refine (View.set_slice_whole cc0_scratch3 (slotR s)).trans (slotR_set s)
theorem slotSet_disjoint {s t : Fin 6} (h : s ≠ t) : Disjoint (slotSet s) (slotSet t) :=
  Finset.disjoint_left.mpr fun i hs ht => h ((mem_slotSet.mp hs).symm.trans (mem_slotSet.mp ht))
theorem slotSet_cover : (Finset.univ : Finset (Fin 6)).biUnion slotSet = Finset.univ := by
  ext i; simp [mem_slotSet]

/-- Device `c`'s send slot `s` at contents `f`, -/
def sPts (c : Dev nD) (s : Fin 6) (f : (cc0_scratch2 : Ref sig .tc).ty.Contents (Elt F)) : sProp 𝕄 :=
  ((c : Thread nD τ).loc cc0_scratch2) ↦[slotSet s]{fullShare} f
/-- and its receive slot `s`. -/
def vPts (c : Dev nD) (s : Fin 6) (f : (cc0_scratch3 : Ref sig .tc).ty.Contents (Elt F)) : sProp 𝕄 :=
  ((c : Thread nD τ).loc cc0_scratch3) ↦[slotSet s]{fullShare} f

omit [FloatOps F] in
instance sPts_storable (c : Dev nD) (s : Fin 6) (f) : BI.Storable (upEmb : UEmb _ 𝕄) (sPts (F := F) c s f) := by unfold sPts; infer_instance
omit [FloatOps F] in
instance vPts_storable (c : Dev nD) (s : Fin 6) (f) : BI.Storable (upEmb : UEmb _ 𝕄) (vPts (F := F) c s f) := by unfold vPts; infer_instance

omit [FloatOps F] in
/-- A send buffer is its six slots, -/
theorem sPts_split (c : Dev nD) (f : (cc0_scratch2 : Ref sig .tc).ty.Contents (Elt F)) :
    (((c : Thread nD τ).loc cc0_scratch2) ↦{fullShare} f : sProp 𝕄) = bigSep Finset.univ fun s => sPts c s f := by
  unfold sPts
  rw [← pointsTo_biUnion (ℓ := (c : Thread nD τ).loc cc0_scratch2) Finset.univ slotSet fun s _ t _ h => slotSet_disjoint h]
  exact congrArg (fun S => (((c : Thread nD τ).loc cc0_scratch2) ↦[S]{fullShare} f : sProp 𝕄)) slotSet_cover.symm
omit [FloatOps F] in
/-- and a receive buffer. -/
theorem vPts_split (c : Dev nD) (f : (cc0_scratch3 : Ref sig .tc).ty.Contents (Elt F)) :
    (((c : Thread nD τ).loc cc0_scratch3) ↦{fullShare} f : sProp 𝕄) = bigSep Finset.univ fun s => vPts c s f := by
  unfold vPts
  rw [← pointsTo_biUnion (ℓ := (c : Thread nD τ).loc cc0_scratch3) Finset.univ slotSet fun s _ t _ h => slotSet_disjoint h]
  exact congrArg (fun S => (((c : Thread nD τ).loc cc0_scratch3) ↦[S]{fullShare} f : sProp 𝕄)) slotSet_cover.symm

/-- Storing slot `s`'s value makes the slot hold what is sent, whatever the buffer held; -/
theorem stored (c : Dev nD) (s : Fin 6) (f : (cc0_scratch2 : Ref sig .tc).ty.Contents (Elt F)) :
    ((((c : Thread nD τ).loc cc0_scratch2) ↦[slotSet s]{fullShare} (sM.access (slotR s)).write (Elt F) f (slotVal m c s) Finset.univ) : sProp 𝕄)
      = sPts c s (sent m c) := by
  unfold sPts
  refine pointsTo_congr fun i hi => ?_
  obtain rfl := mem_slotSet.mp hi
  have h := View.write_emb_of_mem (v := sM.access (slotR (slotOf i))) (Val := Elt F) f (slotVal m c (slotOf i)) (Finset.mem_univ (inSlot i))
  have he : (sM.access (slotR (slotOf i))).emb (inSlot i) = i := emb_inSlot i
  rw [he] at h
  exact h
/-- a copy out of it makes the receiver's slot hold what it receives. -/
theorem copied (c : Dev nD) (s : Fin 6) (fd : (cc0_scratch3 : Ref sig .tc).ty.Contents (Elt F)) :
    ((((tgt (grp s) c : Dev nD) : Thread nD τ).loc cc0_scratch3 ↦[slotSet s]{fullShare}
        ((slotM vM s).view.write (Elt F) fd ((slotM sM s).view.read (Elt F) (sent m c)) Finset.univ)) : sProp 𝕄)
      = vPts (tgt (grp s) c) s (landed m (tgt (grp s) c)) := by
  unfold vPts
  refine pointsTo_congr fun i hi => ?_
  have hi' : i ∈ (slotM vM s).view.set := by rw [set_vM]; exact hi
  obtain ⟨y, -, rfl⟩ := Finset.mem_map.mp hi'
  refine (View.write_emb_of_mem (v := (slotM vM s).view) (Val := Elt F) fd _ (Finset.mem_univ y)).trans ?_
  have hs : slotOf ((slotM vM s).view.emb y) = s := mem_slotSet.mp hi
  show sent m c ((slotM sM s).view.emb y) = landed m (tgt (grp s) c) ((slotM vM s).view.emb y)
  unfold landed
  rw [hs, src_tgt]
  have hs' : slotOf ((slotM sM s).view.emb y) = s := hs
  unfold sent
  rw [hs']
  rfl

/-! ## The schedule -/

/-- What the signal of its `k`-th peer hands device `c`: that peer's two receive slots of pair `k`, at any contents. -/
def barPay (c : Dev nD) (k : Fin 3) : sProp 𝕄 :=
  iprop((∃ f, vPts (tgt k c) ⟨2 * k.val, by omega⟩ f) ∗ (∃ f, vPts (tgt k c) ⟨2 * k.val + 1, by omega⟩ f))

/-- One round: a barrier cell has the three peers' duties of one unit, a send or a receive cell one duty of a slot's credit. -/
def Rd : Rounds.Schedule (GSem nD τ sig) (Fin 3) 𝕄 where
  duties g r := if r = 0 ∧ g.1.2 = .tc then (match g.2 with | .reg _ => Finset.univ | .dma q => if 5 ≤ q.val then {0} else ∅) else ∅
  unitless _ := False
  amount g _ _ := match g.2 with | .reg _ => 1 | .dma _ => N
  payload g _ d := match g.2 with
    | .reg _ => barPay g.1.1 d
    | .dma q =>
      if h : 11 ≤ q.val ∧ q.val - 11 < 6 then vPts g.1.1 ⟨q.val - 11, h.2⟩ (landed m g.1.1)
      else if h : 5 ≤ q.val ∧ q.val - 5 < 6 then sPts g.1.1 ⟨q.val - 5, h.2⟩ (sent m g.1.1)
      else iprop(emp)
  amount_pos g _ _ _ := by
    rcases g with ⟨t, q | q⟩
    · exact Nat.one_pos
    · exact N_pos

instance Rd_payload_storable (g : GSem nD τ sig) (r : ℕ) (d : Fin 3) : BI.Storable (upEmb : UEmb _ 𝕄) ((Rd (F := F) m).payload g r d) := by
  rcases g with ⟨t, q | q⟩
  · show BI.Storable upEmb (barPay t.1 d)
    unfold barPay; infer_instance
  · show BI.Storable upEmb (if h : 11 ≤ q.val ∧ q.val - 11 < 6 then vPts t.1 ⟨q.val - 11, h.2⟩ (landed m t.1)
      else if h : 5 ≤ q.val ∧ q.val - 5 < 6 then sPts t.1 ⟨q.val - 5, h.2⟩ (sent m t.1) else iprop(emp))
    (repeat' split) <;> infer_instance

section Tables
variable (c : Dev nD) (s : Fin 6)

theorem duties_bar : (Rd (F := F) m).duties (barCell c) 0 = Finset.univ := by dsimp only [Rd]; exact if_pos ⟨rfl, rfl⟩
theorem duties_send : (Rd (F := F) m).duties (sendCell s c) 0 = {0} := by
  dsimp only [Rd]; rw [if_pos ⟨rfl, rfl⟩]; exact if_pos (Nat.le_add_right 5 _)
theorem duties_recv : (Rd (F := F) m).duties (recvCell s c) 0 = {0} := by
  dsimp only [Rd]; rw [if_pos ⟨rfl, rfl⟩]; exact if_pos (Nat.le_add_right 5 _)
theorem duties_later (g : GSem nD τ sig) : ∀ r, 1 ≤ r → (Rd (F := F) m).duties g r = ∅ :=
  fun r hr => by dsimp only [Rd]; exact if_neg fun h => by omega

theorem amount_bar (d : Fin 3) : (Rd (F := F) m).amount (barCell c) 0 d = 1 := rfl
theorem amount_send (d : Fin 3) : (Rd (F := F) m).amount (sendCell s c) 0 d = N := rfl
theorem amount_recv (d : Fin 3) : (Rd (F := F) m).amount (recvCell s c) 0 d = N := rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell s c) 0 = N := by
  unfold Schedule.expect Schedule.amountOf; rw [duties_send, Finset.sum_singleton, amount_send]
theorem expect_recv : (Rd (F := F) m).expect (recvCell s c) 0 = N := by
  unfold Schedule.expect Schedule.amountOf; rw [duties_recv, Finset.sum_singleton, amount_recv]

theorem payload_bar (d : Fin 3) : (Rd (F := F) m).payload (barCell c) 0 d = barPay c d := rfl
theorem payload_recv (d : Fin 3) : (Rd (F := F) m).payload (recvCell s c) 0 d = vPts c s (landed m c) := by
  have hs := s.isLt
  show (if h : 11 ≤ 5 + (6 + s.val) ∧ 5 + (6 + s.val) - 11 < 6 then vPts c ⟨5 + (6 + s.val) - 11, h.2⟩ (landed m c) else _) = _
  rw [dif_pos ⟨by omega, by omega⟩]
  exact congrArg (fun s' => vPts c s' (landed m c)) (Fin.ext (by show 5 + (6 + s.val) - 11 = s.val; omega))
theorem payload_send (d : Fin 3) : (Rd (F := F) m).payload (sendCell s c) 0 d = sPts c s (sent m c) := by
  have hs := s.isLt
  show (if h : 11 ≤ 5 + s.val ∧ 5 + s.val - 11 < 6 then _ else
    if h : 5 ≤ 5 + s.val ∧ 5 + s.val - 5 < 6 then sPts c ⟨5 + s.val - 5, h.2⟩ (sent m c) else _) = _
  rw [dif_neg (by omega), dif_pos ⟨by omega, by omega⟩]
  exact congrArg (fun s' => sPts c s' (sent m c)) (Fin.ext (by show 5 + s.val - 5 = s.val; omega))

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((Rd (F := F) m).duties (sendCell s c) 0 \ ∅) (fun d => (Rd (F := F) m).payload (sendCell s c) 0 d) = sPts c s (sent m c) := by
  rw [Finset.sdiff_empty, duties_send, bigSep_singleton, payload_send]
theorem rest_recv : bigSep ((Rd (F := F) m).duties (recvCell s c) 0 \ ∅) (fun d => (Rd (F := F) m).payload (recvCell s c) 0 d) = vPts c s (landed m c) := by
  rw [Finset.sdiff_empty, duties_recv, bigSep_singleton, payload_recv]

end Tables

/-! ## What a device owes; the levels -/

/-- The credit of device `c`'s copy through slot `s`, owed to its receiver's cell. -/
abbrev owesSlot (c : Dev nD) (s : Fin 6) : CellTallies nD τ sig Unit := tallyAt (recvCell s (tgt (grp s) c)) () N
/-- What `c` owes when its last `n` copies are still to be made. -/
def sendsLeft (c : Dev nD) : ℕ → CellTallies nD τ sig Unit
  | 0 => 0
  | n + 1 => sendsLeft c n + owesSlot c ⟨5 - n, by omega⟩
/-- At launch: the six copies and the three signals, summed in the order they are paid, last first. -/
def O₂ (c : Dev nD) : CellTallies nD τ sig Unit := sendsLeft c 6 + tallyAt (barCell (src 0 c)) () 1
def O₁ (c : Dev nD) : CellTallies nD τ sig Unit := O₂ c + tallyAt (barCell (src 2 c)) () 1
def O₀ (c : Dev nD) : CellTallies nD τ sig Unit := O₁ c + tallyAt (barCell (src 1 c)) () 1

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (s : Fin 6) (c : Dev nD) (u : Unit) : lv (recvCell s c) u = 2 := if_pos (by show 11 ≤ 5 + (6 + s.val); omega)

theorem tally_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h
theorem sendsLeft_pos {c : Dev nD} {g : GSem nD τ sig} {u : Unit} : ∀ {n : ℕ}, 0 < sendsLeft c n g u → ∃ s t, g = recvCell s t
  | 0, h => absurd h (Nat.lt_irrefl 0)
  | n + 1, h => by
    unfold sendsLeft at h
    rw [Pi.add_apply, Finsupp.add_apply] at h
    rcases Nat.add_pos_iff_pos_or_pos.mp h with h | h
    · exact sendsLeft_pos h
    · exact ⟨_, _, tally_pos h⟩
theorem O₀_pos {c : Dev nD} {g : GSem nD τ sig} {u : Unit} (h : 0 < O₀ c g u) : (∃ s t, g = recvCell s t) ∨ ∃ t, g = barCell t := by
  unfold O₀ O₁ O₂ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (sendsLeft_pos h)
      · exact .inr ⟨_, tally_pos h⟩
    · exact .inr ⟨_, tally_pos h⟩
  · exact .inr ⟨_, tally_pos h⟩

omit [FloatOps F] in
/-- A wait of the launch's own, on a staging semaphore. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, t, rfl⟩ | ⟨t, rfl⟩ <;> exact Finset.mem_singleton_self _)
      (fun p hp => by
        rw [Finset.mem_singleton.mp hp]; show (if 11 ≤ q.val then 2 else 0) ≤ 0
        rw [if_neg (by omega)])
      (fun g u hg => by
        rcases O₀_pos hg with ⟨s, t, rfl⟩ | ⟨t, rfl⟩
        · rw [lv_recv]; decide
        · rw [lv_bar]; decide)
  · rw [MayWait_zero]; iintro -; iempintro

omit [FloatOps F] in
/-- At its barrier wait a device owes receive cells only, which are above its barrier cell. -/
theorem mayWait_bar (c : Dev nD) (n : ℕ) : (levAts L lv : sProp 𝕄) ⊢ MayWait (c : Thread nD τ) (.reg barS) () (sendsLeft c n) :=
  MayOwe.of_cut (L := L) (lev := lv) 1 (fun p hp => by rw [Finset.mem_singleton.mp hp, L_tc]; exact Finset.mem_singleton_self _)
    (fun g u hg => by obtain ⟨s, t, rfl⟩ := sendsLeft_pos hg; exact Finset.mem_singleton_self _)
    (fun p hp => by rw [Finset.mem_singleton.mp hp]; exact Nat.le_refl 1)
    (fun g u hg => by obtain ⟨s, t, rfl⟩ := sendsLeft_pos hg; rw [lv_recv]; decide)

end Cert.KernelIdeal.Moe

end
-- ==== Proof.State.lean ====
/-
What a device's body starts from and what it gives back, and the rules of the program's communication steps at that
state: a signal to a peer, the barrier wait, the store of a slot and its copy to the receiver, and the two waits of a slot.
-/
module

public import proofs.«01_k».proof.Proof.Protocol
public import Idealize.ShloMosaic.Lib.Exec

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions written out -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- The barrier's, the six send cells' and the six receive cells' shares. -/
theorem bigSep_cells (Φ : Option (Fin 12) → sProp 𝕄) :
    bigSep Finset.univ Φ = iprop(Φ none ∗ (bigSep Finset.univ fun s : Fin 6 => Φ (some (sIx s))) ∗ bigSep Finset.univ fun s : Fin 6 => Φ (some (vIx s))) := by
  rw [bigSep_univ_eq_bigSepL [none, some 0, some 1, some 2, some 3, some 4, some 5, some 6, some 7, some 8, some 9, some 10, some 11] (by decide) (by decide) Φ,
    bigSep_fin6, bigSep_fin6]
  simp only [bigSepL_cons_cons, bigSepL_singleton]
  refine BI.Entails.antisymm
    (show iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9)
        ∗ Φ (some 10) ∗ Φ (some 11))
      ⊢ iprop(Φ none ∗ (Φ (some 0) ∗ Φ (some 1) ∗ Φ (some 2) ∗ Φ (some 3) ∗ Φ (some 4) ∗ Φ (some 5)) ∗ Φ (some 6) ∗ Φ (some 7) ∗ Φ (some 8) ∗ Φ (some 9)
        ∗ Φ (some 10) ∗ Φ (some 11)) from ?_)
    (show iprop(Φ none ∗ (Φ (some 0) ∗ Φ (some 1) ∗ Φ (some 2) ∗ Φ (some 3) ∗ Φ (some 4) ∗ Φ (some 5)) ∗ Φ (some 6) ∗ Φ (some 7) ∗ Φ (some 8) ∗ Φ (some 9)
        ∗ Φ (some 10) ∗ Φ (some 11))
      ⊢ iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9)
        ∗ Φ (some 10) ∗ Φ (some 11)) from ?_)
  · iintro ⟨H, H0, H1, H2, H3, H4, H5, H⟩
    iframe
  · iintro ⟨H, ⟨H0, H1, H2, H3, H4, H5⟩, H⟩
    iframe

/-! ## The ghost state -/

/-- Every cell's invariant, under the names `K` the launch allocated them at, and that every cell is at round 0. -/
def records (K : Dev nD × Option (Fin 12) → ℕ) : sProp 𝕄 :=
  iprop((bigSep Finset.univ fun ck : Dev nD × Option (Fin 12) => cellInv ER (Rd m) (K ck) (kcell ck))
    ∗ bigSep Finset.univ fun ck : Dev nD × Option (Fin 12) => reached ER (kcell ck) 0)

instance records_persistent (K : Dev nD × Option (Fin 12) → ℕ) : BI.Persistent (records m K) := by unfold records; infer_instance

theorem inv_at (K : Dev nD × Option (Fin 12) → ℕ) (ck : Dev nD × Option (Fin 12)) : records m K ⊢ cellInv ER (Rd m) (K ck) (kcell ck) := by
  unfold records
  iintro ⟨#HI, -⟩
  iapply (show (bigSep Finset.univ fun ck : Dev nD × Option (Fin 12) => (cellInv ER (Rd m) (K ck) (kcell ck) : sProp 𝕄)) ⊢ cellInv ER (Rd m) (K ck) (kcell ck)
    from bigSep_elim (Finset.mem_univ ck)); iexact HI
theorem reached_at (K : Dev nD × Option (Fin 12) → ℕ) (ck : Dev nD × Option (Fin 12)) : records m K ⊢ reached ER (kcell ck) 0 := by
  unfold records
  iintro ⟨-, #HR⟩
  iapply (show (bigSep Finset.univ fun ck : Dev nD × Option (Fin 12) => (reached ER (kcell ck) 0 : sProp 𝕄)) ⊢ reached ER (kcell ck) 0
    from bigSep_elim (Finset.mem_univ ck)); iexact HR

/-- The tokens of the duties device `c` pays: at each peer's barrier, at its own send cells, at its receivers' cells. -/
def payToks (c : Dev nD) : sProp 𝕄 :=
  iprop((bigSep Finset.univ fun k : Fin 3 => dutyTok ER (barCell (src k c)) 0 k)
    ∗ (bigSep Finset.univ fun s : Fin 6 => dutyTok ER (sendCell s c) 0 0)
    ∗ bigSep Finset.univ fun s : Fin 6 => dutyTok ER (recvCell s (tgt (grp s) c)) 0 0)
/-- Its positions at round 0 of its own cells. -/
def places (c : Dev nD) : sProp 𝕄 := bigSep Finset.univ fun k : Option (Fin 12) => atPos ER (kcell (c, k)) 0 ∅ 0

def ghost (K : Dev nD × Option (Fin 12) → ℕ) (c : Dev nD) : sProp 𝕄 := iprop(records m K ∗ places c ∗ payToks c)

/-- What its cells are owed: three units of its barrier, a slot's credit of each receive cell. -/
def dues (c : Dev nD) : sProp 𝕄 := iprop(cred (tallyAt (barCell c) () 3) ∗ bigSep Finset.univ fun s : Fin 6 => cred (tallyAt (recvCell s c) () N))

def start (c : Dev nD) : sProp 𝕄 := iprop((∃ K, ghost m K c) ∗ dues c ∗ levAts L lv)

/-- The kernel's four scratch buffers, whole, at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def Φ₀ (c : Dev nD) : sProp 𝕄 := iprop(start m c ∗ scratch c)
/-- After the body: the scratch again, and every cell closed at zero. -/
def Φ₁ (c : Dev nD) : sProp 𝕄 := iprop(scratch (F := F) c ∗ bigSep Finset.univ fun k : Option (Fin 12) => semVal (kcell (c, k)) 0)

/-- A device's bill at hand. -/
def bill (c : Dev nD) (O : CellTallies nD τ sig Unit) : sProp 𝕄 := iprop(∃ W, owes (c : Thread nD τ) O W)

/-! ## The communication steps -/

section Steps
variable (K : Dev nD × Option (Fin 12) → ℕ) (c : Dev nD)

/-- A device signals its `k`-th payee, handing over its two receive slots of pair `k`. -/
theorem wp_signal_peer (n : Dev nD) (k : Fin 3) (hn : n = src k c) (O' O : CellTallies nD τ sig Unit)
    (hO : O' = O + tallyAt (barCell (src k c)) () 1) {α : Type} {Q : α → sProp 𝕄} {kont : PUnit → Prog (TpuEff nD τ sig (Elt F) Λ₀ .tc) α} :
    iprop(records m K ∗ bill c O' ∗ dutyTok ER (barCell (src k c)) 0 k ∗ (∃ f, vPts c ⟨2 * k.val, by omega⟩ f) ∗ (∃ f, vPts c ⟨2 * k.val + 1, by omega⟩ f))
      ⊢ iprop((bill c O -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS (1#32).toNat) kont) Q) := by
  subst hn; subst hO
  unfold bill
  iintro ⟨#HR, ⟨%W, HO⟩, Htok, Hv⟩ Hk
  iapply (Rounds.wp_signal 𝒱₀ ER (Rd m) (c : Thread nD τ) none (dst := (src k c : Thread nD τ)) (κ := K (src k c, none))
      (d := k) (by rw [duties_bar]; exact Finset.mem_univ _) ((amount_bar m (src k c) k).trans (by decide)) () O rfl) $$ [HO Htok Hv]
  · isplitr; · iapply (inv_at m K (src k c, none)); iexact HR
    isplitl [HO]; · iexact HO
    isplitl [Htok]; · iexact Htok
    isplitl [Hv]; · rw [payload_bar]; unfold barPay; rw [tgt_src]; iexact Hv
    iapply (reached_at m K (src k c, none)); iexact HR
  iintro HO
  iapply Hk
  iexists W; iexact HO

/-- The barrier wait: every payee's two receive slots for this device come with it, and the barrier cell closes. -/
theorem wp_barrier (n : ℕ) {α : Type} {Q : α → sProp 𝕄} {kont : PUnit → Prog (TpuEff nD τ sig (Elt F) Λ₀ .tc) α} :
    iprop(records m K ∗ bill c (sendsLeft c n) ∗ cred (tallyAt (barCell c) () 3) ∗ levAts L lv ∗ atPos ER (barCell c) 0 ∅ 0)
      ⊢ iprop(((bill c (sendsLeft c n) ∗ semVal (barCell c) 0 ∗ barPay c 0 ∗ barPay c 1 ∗ barPay c 2)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (3#32).toNat) kont) Q) := by
  unfold bill
  iintro ⟨#HR, ⟨%W, HO⟩, HcB, #Hlev, HatB⟩ Hk
  iapply (Rounds.wp_wait_rest_token 𝒱₀ ER (Rd m) (c : Thread nD τ) none (κ := K (c, none))
      (wpE_semWait_eq 𝒱₀ (c : Thread nD τ) none Set.univ) (Set.mem_univ _) () (O := sendsLeft c n) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c n); iexact Hlev
    iexact HatB
  iintro ⟨HO, HatB, -, Hpay⟩
  ihave Hp := (Entails.of_eq (rest_bar m c)) $$ Hpay
  imod (Rounds.cell_close ER (Rd m) (Set.mem_univ (K (c, none))) (fun h => h) (R := 0 + 1) (duties_later m (barCell c))) $$ [HatB] with HzB
  · isplitr; · iapply (inv_at m K (c, none)); iexact HR
    iexact HatB
  iapply Hk
  isplitl [HO]; · iexists _; iexact HO
  isplitl [HzB] <;> iassumption

theorem credit_vM (s : Fin 6) : (slotM vM s).view.dmaCredit = N := rfl

/-- A departing slot is what its send cell hands back; -/
theorem departs (s : Fin 6) : (((slotM sM s).view.loc (c : Thread nD τ)) ↦[(slotM sM s).view.set]{fullShare} sent m c : sProp 𝕄)
    ⊢ (Rd m).payload (sendCell s c) 0 0 := by
  rw [payload_send, set_sM]; unfold sPts; exact BI.Entails.refl _
/-- an arriving slot what its receive cell hands over. -/
theorem arrives (s : Fin 6) (fd : (cc0_scratch3 : Ref sig .tc).ty.Contents (Elt F)) :
    (((slotM vM s).view.loc (tgt (grp s) c : Thread nD τ)) ↦[(slotM vM s).view.set]{fullShare}
        (slotM vM s).view.write (Elt F) fd ((slotM sM s).view.read (Elt F) (sent m c)) Finset.univ : sProp 𝕄)
      ⊢ (Rd m).payload (recvCell s (tgt (grp s) c)) 0 0 := by
  rw [payload_recv, set_vM]; exact Entails.of_eq (copied m c s fd)

/-- The copy of slot `s` to its receiver. -/
theorem wp_send_slot (s : Fin 6) (k : ℕ) (hk : sendsLeft c (k + 1) = sendsLeft c k + owesSlot c s) (n : Dev nD) (hn : n = tgt (grp s) c)
    {q₁ q₂ : DmaSem sig} (hq₁ : (SemLoc.dma q₁ : SemLoc sig) = osem (sIx s)) (hq₂ : (SemLoc.dma q₂ : SemLoc sig) = osem (vIx s))
    {A B : Memref sig .tc .vmem S256x1024 .bf16} (hA : A = slotM sM s) (hB : B = slotM vM s)
    {hsc : (B : Memref sig (Dev.tc n : Thread nD τ).2.kind .vmem S256x1024 .bf16).view.ref.isScScratch = false}
    {hsrc : A.view.WordExact} {hdst : B.view.WordExact}
    {hsem : DmaTarget.Typed .vmem (.dma q₂) (.remote (Dev.tc n : Thread nD τ) B (.dma q₁) hsc)}
    {α : Type} {Q : α → sProp 𝕄} {kont : PUnit → Prog (TpuEff nD τ sig (Elt F) Λ₀ .tc) α} :
    iprop(records m K ∗ bill c (sendsLeft c (k + 1)) ∗ sPts c s (sent m c) ∗ (∃ f, vPts (tgt (grp s) c) s f)
        ∗ dutyTok ER (sendCell s c) 0 0 ∗ dutyTok ER (recvCell s (tgt (grp s) c)) 0 0)
      ⊢ iprop(((cred (tallyAt (sendCell s c) () N) ∗ bill c (sendsLeft c k)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma A (.remote (Dev.tc n : Thread nD τ) B (.dma q₁) hsc) (.dma q₂) hsrc hdst hsem) kont) Q) := by
  subst hn hA hB
  injection hq₁ with hq₁
  injection hq₂ with hq₂
  subst hq₁ hq₂
  unfold bill
  iintro ⟨#HR, ⟨%W, HO⟩, Hs, ⟨%fd, Hv⟩, Hts, Htv⟩ Hk
  have hd₁ : (0 : Fin 3) ∈ (Rd (F := F) m).duties (sendCell s c) 0 := by rw [duties_send]; exact Finset.mem_singleton_self _
  have hd₂ : (0 : Fin 3) ∈ (Rd (F := F) m).duties (recvCell s (tgt (grp s) c)) 0 := by rw [duties_recv]; exact Finset.mem_singleton_self _
  iapply (Rounds.wp_send_pointsTo 𝒱₀ ER (Rd m) (c : Thread nD τ) none (κ₁ := K (c, some (sIx s))) (κ₂ := K (tgt (grp s) c, some (vIx s)))
    (src := slotM sM s) (dst := slotM vM s) (c' := (tgt (grp s) c : Thread nD τ)) (q := fullShare) (fs := sent m c)
    (r₁ := 0) (r₂ := 0) (d₁ := 0) (d₂ := 0) (fd := fd) hd₁ hd₂
    () () N (credit_vM s) (amount_send m c s 0) (amount_recv m (tgt (grp s) c) s 0) (sendsLeft c k) hk (W := W)
    (departs m c s) (arrives m c s fd)) $$ [HO Hs Hv Hts Htv]
  · isplitr; · iapply (inv_at m K (c, some (sIx s))); iexact HR
    isplitr; · iapply (inv_at m K (tgt (grp s) c, some (vIx s))); iexact HR
    isplitl [Hs]; · rw [set_sM]; unfold sPts; iexact Hs
    isplitl [Hv]; · rw [set_vM]; unfold vPts; iexact Hv
    isplitl [HO]; · iexact HO
    isplitl [Hts]; · iexact Hts
    isplitr; · iapply (reached_at m K (c, some (sIx s))); iexact HR
    isplitl [Htv]; · iexact Htv
    iapply (reached_at m K (tgt (grp s) c, some (vIx s))); iexact HR
  iintro ⟨Hc, HO⟩
  iapply Hk
  isplitl [Hc]; · iexact Hc
  iexists W; iexact HO

/-- The wait for slot `s`'s arrival: the slot holds what its sender sent, and the receive cell closes. -/
theorem wp_wait_recv (s : Fin 6) {q : DmaSem sig} (hq : (SemLoc.dma q : SemLoc sig) = osem (vIx s))
    {A B : Memref sig .tc .vmem S256x1024 .bf16} (hB : B.view.dmaCredit = N)
    {hA' : A.view.WordExact} {hB' : B.view.WordExact}
    {α : Type} {Q : α → sProp 𝕄} {kont : PUnit → Prog (TpuEff nD τ sig (Elt F) Λ₀ .tc) α} :
    iprop(records m K ∗ bill c 0 ∗ cred (tallyAt (recvCell s c) () N) ∗ atPos ER (recvCell s c) 0 ∅ 0)
      ⊢ iprop(((bill c 0 ∗ semVal (recvCell s c) 0 ∗ vPts c s (landed m c)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q A B hA' hB') kont) Q) := by
  injection hq with hq
  subst hq
  unfold bill
  iintro ⟨#HR, ⟨%W, HO⟩, Hc, Hat⟩ Hk
  iapply (Rounds.wp_wait_rest_token 𝒱₀ ER (Rd m) (c : Thread nD τ) none (κ := K (c, some (vIx s)))
      (wpE_waitDma2_eq 𝒱₀ (c : Thread nD τ) none Set.univ) (Set.mem_univ _) () (O := 0) (W := W) (R := 0) (m := 0) (T := ∅)
      (by rw [Nat.zero_add, hB, expect_recv])) $$ [Hc HO Hat]
  · isplitr; · iapply (inv_at m K (c, some (vIx s))); iexact HR
    isplitl [Hc]; · rw [hB]; iexact Hc
    isplitl [HO]; · iexact HO
    isplitr; · rw [MayWait_zero]; iempintro
    iexact Hat
  iintro ⟨HO, Hat, -, Hpay⟩
  ihave Hv := (Entails.of_eq (rest_recv m c s)) $$ Hpay
  imod (Rounds.cell_close ER (Rd m) (Set.mem_univ (K (c, some (vIx s)))) (fun h => h) (R := 0 + 1) (duties_later m (recvCell s c))) $$ [Hat] with Hz
  · isplitr; · iapply (inv_at m K (c, some (vIx s))); iexact HR
    iexact Hat
  iapply Hk
  isplitl [HO]; · iexists _; iexact HO
  isplitl [Hz] <;> iassumption

/-- The wait for slot `s`'s departure: the send slot comes back, and the send cell closes. -/
theorem wp_wait_send (s : Fin 6) {q : DmaSem sig} (hq : (SemLoc.dma q : SemLoc sig) = osem (sIx s))
    {A B : Memref sig .tc .vmem S256x1024 .bf16} (hB : B.view.dmaCredit = N)
    {hA' : A.view.WordExact} {hB' : B.view.WordExact}
    {α : Type} {Q : α → sProp 𝕄} {kont : PUnit → Prog (TpuEff nD τ sig (Elt F) Λ₀ .tc) α} :
    iprop(records m K ∗ bill c 0 ∗ cred (tallyAt (sendCell s c) () N) ∗ atPos ER (sendCell s c) 0 ∅ 0)
      ⊢ iprop(((bill c 0 ∗ semVal (sendCell s c) 0 ∗ sPts c s (sent m c)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q A B hA' hB') kont) Q) := by
  injection hq with hq
  subst hq
  unfold bill
  iintro ⟨#HR, ⟨%W, HO⟩, Hc, Hat⟩ Hk
  iapply (Rounds.wp_wait_rest_token 𝒱₀ ER (Rd m) (c : Thread nD τ) none (κ := K (c, some (sIx s)))
      (wpE_waitDma2_eq 𝒱₀ (c : Thread nD τ) none Set.univ) (Set.mem_univ _) () (O := 0) (W := W) (R := 0) (m := 0) (T := ∅)
      (by rw [Nat.zero_add, hB, expect_send])) $$ [Hc HO Hat]
  · isplitr; · iapply (inv_at m K (c, some (sIx s))); iexact HR
    isplitl [Hc]; · rw [hB]; iexact Hc
    isplitl [HO]; · iexact HO
    isplitr; · rw [MayWait_zero]; iempintro
    iexact Hat
  iintro ⟨HO, Hat, -, Hpay⟩
  ihave Hv := (Entails.of_eq (rest_send m c s)) $$ Hpay
  imod (Rounds.cell_close ER (Rd m) (Set.mem_univ (K (c, some (sIx s)))) (fun h => h) (R := 0 + 1) (duties_later m (sendCell s c))) $$ [Hat] with Hz
  · isplitr; · iapply (inv_at m K (c, some (sIx s))); iexact HR
    iexact Hat
  iapply Hk
  isplitl [HO]; · iexists _; iexact HO
  isplitl [Hz] <;> iassumption

/-- A load of slot `s` of the send buffer, whatever it holds (the program loads before it stores); -/
theorem wp_peek (s : Fin 6) {r : Rect S6x256x1024} (hr : r = slotR s) {hl : sM.view.LoadsAt r.toLoadRect}
    (f : (cc0_scratch2 : Ref sig .tc).ty.Contents (Elt F))
    {α : Type} {Q : α → sProp 𝕄} {kont : (r.shape.Idx → Elt F .bf16) → Prog (TpuEff nD τ sig (Elt F) Λ₀ .tc) α} :
    sPts c s f ⊢ iprop((sPts c s f -∗ wp frame (wpE (defs₀ (F := F)) 𝒱₀ (c : Thread nD τ) none) Set.univ (kont (sM.view.readAt (Elt F) r.toLoadRect f)) Q)
          -∗ wp frame (wpE (defs₀ (F := F)) 𝒱₀ (c : Thread nD τ) none) Set.univ (.op (.load sM r.toLoadRect hl) kont) Q) := by
  subst hr
  unfold sPts
  exact wp_load_rect 𝒱₀ (c : Thread nD τ) none Set.univ (m := sM) (r := slotR s) (access_sM s).subset

/-- the store of slot `s`; -/
theorem wp_fill (s : Fin 6) {r : Rect S6x256x1024} (hr : r = slotR s) (v : r.shape.Idx → Elt F .bf16) (hv : HEq v (slotVal m c s))
    {hx : (sM.access r).Stores Finset.univ} {hm : (Finset.univ : Finset r.shape.Idx) = Finset.univ ∨ ∀ a, r.stride a = 1}
    (f : (cc0_scratch2 : Ref sig .tc).ty.Contents (Elt F))
    {α : Type} {Q : α → sProp 𝕄} {kont : PUnit → Prog (TpuEff nD τ sig (Elt F) Λ₀ .tc) α} :
    sPts c s f ⊢ iprop((sPts c s (sent m c) -∗ wp frame (wpE (defs₀ (F := F)) 𝒱₀ (c : Thread nD τ) none) Set.univ (kont ⟨⟩) Q)
          -∗ wp frame (wpE (defs₀ (F := F)) 𝒱₀ (c : Thread nD τ) none) Set.univ (.op (.store sM r v Finset.univ hx hm) kont) Q) := by
  subst hr
  have hv' := eq_of_heq hv
  subst hv'
  rw [← stored m c s f]
  unfold sPts
  exact wp_store 𝒱₀ (c : Thread nD τ) none Set.univ (m := sM) (r := slotR s) (Mk := Finset.univ) (access_sM s).subset

/-- a load of an arrived slot. -/
theorem wp_take (s : Fin 6) {r : Rect S6x256x1024} (hr : r = slotR s) (v : r.shape.Idx → Elt F .bf16) (hv : HEq v (slotVal m (src (grp s) c) s)) {hl : vM.view.LoadsAt r.toLoadRect}
    {α : Type} {Q : α → sProp 𝕄} {kont : (r.shape.Idx → Elt F .bf16) → Prog (TpuEff nD τ sig (Elt F) Λ₀ .tc) α} :
    vPts c s (landed m c) ⊢ iprop((vPts c s (landed m c)
            -∗ wp frame (wpE (defs₀ (F := F)) 𝒱₀ (c : Thread nD τ) none) Set.univ (kont v) Q)
          -∗ wp frame (wpE (defs₀ (F := F)) 𝒱₀ (c : Thread nD τ) none) Set.univ (.op (.load vM r.toLoadRect hl) kont) Q) := by
  subst hr
  have hv' := eq_of_heq hv
  subst hv'
  rw [← read_landed]
  unfold vPts
  exact wp_load_rect 𝒱₀ (c : Thread nD τ) none Set.univ (m := vM) (r := slotR s) (access_vM s).subset

end Steps

end Cert.KernelIdeal.Moe

end
-- ==== Proof.Writes.lean ====
/-
What the program's stores leave: eight columns stored make the array of gates, eight matrices stored the array of weights,
two halves stored the block of the result. And the windows the program takes at computed places, at the rows they are.
-/
module

public import proofs.«01_k».proof.Proof.Contents
public import Idealize.ShloMosaic.Lib.WritesUnit
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.TcCoe Idealize.SL.Sem

variable {F : FTy → Type}

/-- Every index of eight columns lies in one of them, -/
theorem mem_col (i : S2048x8.Idx) : i ∈ (colR (colOf i)).set := by
  rw [← Rect.map_emb_univ]; exact Finset.mem_map.mpr ⟨inCol i, Finset.mem_univ _, emb_inCol i⟩
theorem mem_row (i : S8x512x1024.Idx) : i ∈ (rowR (rowOf i)).set := by
  rw [← Rect.map_emb_univ]; exact Finset.mem_map.mpr ⟨inRow i, Finset.mem_univ _, emb_inRow i⟩
theorem mem_half (i : S512x1024.Idx) : i ∈ (halfR (halfOf i)).set := by
  rw [← Rect.map_emb_univ]; exact Finset.mem_map.mpr ⟨inHalf i, Finset.mem_univ _, emb_inHalf i⟩

/-- The pieces of eight column stores, the last first; -/
abbrev colPieces (w : Fin 8 → Vec F S2048x1 .f32) : List (View.Piece (Elt F) S2048x8 .f32) := [⟨colR 7, w 7⟩, ⟨colR 6, w 6⟩, ⟨colR 5, w 5⟩, ⟨colR 4, w 4⟩, ⟨colR 3, w 3⟩, ⟨colR 2, w 2⟩, ⟨colR 1, w 1⟩, ⟨colR 0, w 0⟩]
/-- of eight matrix stores; -/
abbrev rowPieces (w : Fin 8 → Vec F S1x512x1024 .bf16) : List (View.Piece (Elt F) S8x512x1024 .bf16) := [⟨rowR 7, w 7⟩, ⟨rowR 6, w 6⟩, ⟨rowR 5, w 5⟩, ⟨rowR 4, w 4⟩, ⟨rowR 3, w 3⟩, ⟨rowR 2, w 2⟩, ⟨rowR 1, w 1⟩, ⟨rowR 0, w 0⟩]
/-- of two half stores. -/
abbrev halfPieces (w : Fin 2 → Vec F S256x1024 .f32) : List (View.Piece (Elt F) S512x1024 .f32) := [⟨halfR 1, w 1⟩, ⟨halfR 0, w 0⟩]

theorem mem_colPieces (w : Fin 8 → Vec F S2048x1 .f32) (j : Fin 8) : (⟨colR j, w j⟩ : View.Piece (Elt F) S2048x8 .f32) ∈ colPieces w := by
  fin_cases j <;> simp [colPieces]
theorem mem_rowPieces (w : Fin 8 → Vec F S1x512x1024 .bf16) (j : Fin 8) : (⟨rowR j, w j⟩ : View.Piece (Elt F) S8x512x1024 .bf16) ∈ rowPieces w := by
  fin_cases j <;> simp [rowPieces]
theorem mem_halfPieces (w : Fin 2 → Vec F S256x1024 .f32) (j : Fin 2) : (⟨halfR j, w j⟩ : View.Piece (Elt F) S512x1024 .f32) ∈ halfPieces w := by
  fin_cases j <;> simp [halfPieces]

theorem of_mem_colPieces {w : Fin 8 → Vec F S2048x1 .f32} {p : View.Piece (Elt F) S2048x8 .f32} (h : p ∈ colPieces w) : ∃ j, p = ⟨colR j, w j⟩ := by
  simp only [colPieces, List.mem_cons, List.not_mem_nil, or_false] at h
  rcases h with h | h | h | h | h | h | h | h <;> exact ⟨_, h⟩
theorem of_mem_rowPieces {w : Fin 8 → Vec F S1x512x1024 .bf16} {p : View.Piece (Elt F) S8x512x1024 .bf16} (h : p ∈ rowPieces w) : ∃ j, p = ⟨rowR j, w j⟩ := by
  simp only [rowPieces, List.mem_cons, List.not_mem_nil, or_false] at h
  rcases h with h | h | h | h | h | h | h | h <;> exact ⟨_, h⟩
theorem of_mem_halfPieces {w : Fin 2 → Vec F S256x1024 .f32} {p : View.Piece (Elt F) S512x1024 .f32} (h : p ∈ halfPieces w) : ∃ j, p = ⟨halfR j, w j⟩ := by
  simp only [halfPieces, List.mem_cons, List.not_mem_nil, or_false] at h
  rcases h with h | h <;> exact ⟨_, h⟩

/-- Eight columns stored, whatever was there, -/
theorem cols_written (f : (cc0_scratch0 : Ref sig .tc).ty.Contents (Elt F)) (w : Fin 8 → Vec F S2048x1 .f32) :
    gM.view.writes (Elt F) f (colPieces w) = fun i => w (colOf i) (inCol i) := by
  have hG : ∀ p ∈ colPieces w, ∀ x : p.1.shape.Idx, p.2 x = (fun i : S2048x8.Idx => w (colOf i) (inCol i)) (p.1.emb x) := by
    intro p hp x
    obtain ⟨j, rfl⟩ := of_mem_colPieces hp
    show w j x = w (colOf ((colR j).emb x)) (inCol ((colR j).emb x))
    rw [colOf_emb, inCol_emb]
  have hc : ∀ i : S2048x8.Idx, ∃ p ∈ colPieces w, i ∈ p.1.set := fun i => ⟨(⟨colR (colOf i), w (colOf i)⟩ : View.Piece (Elt F) S2048x8 .f32), mem_colPieces w (colOf i), mem_col i⟩
  refine (View.read_whole cc0_scratch0 _).symm.trans ?_
  exact funext fun i => View.read_writes_apply_of_pieces gM.view f (fun i : S2048x8.Idx => w (colOf i) (inCol i)) (colPieces w) hG i (hc i)
/-- eight matrices stored, -/
theorem rows_written (f : (cc0_scratch1 : Ref sig .tc).ty.Contents (Elt F)) (w : Fin 8 → Vec F S1x512x1024 .bf16) :
    eM.view.writes (Elt F) f (rowPieces w) = fun i => w (rowOf i) (inRow i) := by
  have hG : ∀ p ∈ rowPieces w, ∀ x : p.1.shape.Idx, p.2 x = (fun i : S8x512x1024.Idx => w (rowOf i) (inRow i)) (p.1.emb x) := by
    intro p hp x
    obtain ⟨j, rfl⟩ := of_mem_rowPieces hp
    show w j x = w (rowOf ((rowR j).emb x)) (inRow ((rowR j).emb x))
    rw [rowOf_emb, inRow_emb]
  have hc : ∀ i : S8x512x1024.Idx, ∃ p ∈ rowPieces w, i ∈ p.1.set := fun i => ⟨(⟨rowR (rowOf i), w (rowOf i)⟩ : View.Piece (Elt F) S8x512x1024 .bf16), mem_rowPieces w (rowOf i), mem_row i⟩
  refine (View.read_whole cc0_scratch1 _).symm.trans ?_
  exact funext fun i => View.read_writes_apply_of_pieces eM.view f (fun i : S8x512x1024.Idx => w (rowOf i) (inRow i)) (rowPieces w) hG i (hc i)
/-- two halves stored. -/
theorem halves_written (f : (cc0_stg4_0 : Ref sig .tc).ty.Contents (Elt F)) (w : Fin 2 → Vec F S256x1024 .f32) :
    oM.view.writes (Elt F) f (halfPieces w) = fun i => w (halfOf i) (inHalf i) := by
  have hG : ∀ p ∈ halfPieces w, ∀ x : p.1.shape.Idx, p.2 x = (fun i : S512x1024.Idx => w (halfOf i) (inHalf i)) (p.1.emb x) := by
    intro p hp x
    obtain ⟨j, rfl⟩ := of_mem_halfPieces hp
    show w j x = w (halfOf ((halfR j).emb x)) (inHalf ((halfR j).emb x))
    rw [halfOf_emb, inHalf_emb]
  have hc : ∀ i : S512x1024.Idx, ∃ p ∈ halfPieces w, i ∈ p.1.set := fun i => ⟨(⟨halfR (halfOf i), w (halfOf i)⟩ : View.Piece (Elt F) S512x1024 .f32), mem_halfPieces w (halfOf i), mem_half i⟩
  refine (View.read_whole cc0_stg4_0 _).symm.trans ?_
  exact funext fun i => View.read_writes_apply_of_pieces oM.view f (fun i : S512x1024.Idx => w (halfOf i) (inHalf i)) (halfPieces w) hG i (hc i)

/-! ## The windows at computed places -/

/-- The peer a step of the offsets names. -/
theorem off1_at (c : Dev nD) (r₁ : Fin 3) (r₂ : Fin 2) :
    k0_off1 c (BitVec.ofNat 32 (1 + r₁.val)) (BitVec.ofNat 32 (256 * r₂.val)) = ![512 * (around (r₁.val + 1) c).val + 256 * r₂.val, 0] := k0_off1_eq c r₁ r₂
theorem off2_at (c : Dev nD) (r₁ : Fin 3) (r₂ : Fin 2) :
    k0_off2 c (BitVec.ofNat 32 (1 + r₁.val)) (BitVec.ofNat 32 (256 * r₂.val)) = ![512 * (around (r₁.val + 1) c).val + 256 * r₂.val, 0] := k0_off2_eq c r₁ r₂

/-- A peer's half of the tokens, at the place the program computes; -/
theorem tokens_peer (c : Dev nD) (r₁ : Fin 3) (h : Fin 2) (f : (cc0_stg0_0 : Ref sig .tc).ty.Contents (Elt F)) :
    xM.view.readAt (Elt F) (Rect.unit (s := S2048x512) (k0_off1 c (BitVec.ofNat 32 (1 + r₁.val)) (BitVec.ofNat 32 (256 * h.val))) S256x512.size (k0_off1_inb c r₁ h)).toLoadRect f
      = xM.view.readAt (Elt F) (rowsX (around (r₁.val + 1) c) h).toLoadRect f :=
  View.readAt_unit_congr xM.view (off1_at c r₁ h) _ _ f
/-- and of the gates. -/
theorem gates_peer (c : Dev nD) (r₁ : Fin 3) (h : Fin 2) (f : (cc0_scratch0 : Ref sig .tc).ty.Contents (Elt F)) :
    gM.view.readAt (Elt F) (Rect.unit (s := S2048x8) (k0_off2 c (BitVec.ofNat 32 (1 + r₁.val)) (BitVec.ofNat 32 (256 * h.val))) S256x8.size (k0_off2_inb c r₁ h)).toLoadRect f
      = gM.view.readAt (Elt F) (rowsG (around (r₁.val + 1) c) h).toLoadRect f :=
  View.readAt_unit_congr gM.view (off2_at c r₁ h) _ _ f
/-- The device's own half of the tokens; -/
theorem tokens_own (c : Dev nD) (h : Fin 2) (f : (cc0_stg0_0 : Ref sig .tc).ty.Contents (Elt F)) :
    xM.view.readAt (Elt F) (Rect.unit (s := S2048x512) (k0_off3 c (BitVec.ofNat 32 (256 * h.val))) S256x512.size (k0_off3_inb c h)).toLoadRect f
      = xM.view.readAt (Elt F) (rowsX c h).toLoadRect f :=
  View.readAt_unit_congr xM.view (k0_off3_eq c h) _ _ f
/-- and of the gates. -/
theorem gates_own (c : Dev nD) (h : Fin 2) (f : (cc0_scratch0 : Ref sig .tc).ty.Contents (Elt F)) :
    gM.view.readAt (Elt F) (Rect.unit (s := S2048x8) (k0_off4 c (BitVec.ofNat 32 (256 * h.val))) S256x8.size (k0_off4_inb c h)).toLoadRect f
      = gM.view.readAt (Elt F) (rowsG c h).toLoadRect f :=
  View.readAt_unit_congr gM.view (k0_off4_eq c h) _ _ f

end Cert.KernelIdeal.Moe

end
-- ==== Proof.Payloads.lean ====
/-
The payloads of the program's text, composed as the program composes them, are the block functions of `Blocks`: the gate
columns it stores, the half blocks it sends, and the two halves of its result.
-/
module

public import proofs.«01_k».proof.Proof.Blocks

@[expose] public section

set_option maxRecDepth 16384

noncomputable section

namespace Cert.KernelIdeal.Moe

open Cert.KernelIdeal Cert.KernelIdeal.Gen
open Idealize.ShloMosaic Idealize.SL.Sem

variable {F : FTy → Type} [FloatOps F]

/-! ## Gate columns -/

section Gates
variable (d : Dev nD) (xv : Vec F S2048x512 .f32) (rw : Vec F S512x32 .f32) (i0 i1 : Vec F S2048x1 .i32)

/-- The device's place on the mesh, as the program computes it. -/
abbrev place (d : Dev nD) : BitVec 32 := Scalar.remsi (Scalar.divsi (Dev.word d) 1#32) 4#32

theorem gate_0 : k0_pay9 (place d) (k0_pay1 xv rw) (k0_pay2 xv rw) i0 i1 = gateCol (expertWord d 0#32) xv rw i0 i1 := rfl
theorem gate_1 : k0_pay12 (k0_pay7 (k0_pay1 xv rw) (k0_pay2 xv rw) i1) (k0_pay8 (k0_pay1 xv rw) (k0_pay2 xv rw) i0 i1)
    (k0_pay10 (place d) (k0_pay1 xv rw) (k0_pay2 xv rw) i0) (k0_pay11 (place d) i1) = gateCol (expertWord d 1#32) xv rw i0 i1 := rfl
theorem gate_2 : k0_pay13 (place d) (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) = gateCol (expertWord d 2#32) xv rw i0 i1 := rfl
theorem gate_3 : k0_pay14 (place d) (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) = gateCol (expertWord d 3#32) xv rw i0 i1 := rfl
theorem gate_4 : k0_pay16 (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) (Scalar.addi (Scalar.muli (place d) 8#32) 4#32) (k0_pay15 (place d)) = gateCol (expertWord d 4#32) xv rw i0 i1 := rfl
theorem gate_5 : k0_pay17 (place d) (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) = gateCol (expertWord d 5#32) xv rw i0 i1 := rfl
theorem gate_6 : k0_pay18 (place d) (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) = gateCol (expertWord d 6#32) xv rw i0 i1 := rfl
theorem gate_7 : k0_pay19 (place d) (k0_pay4 i0) (k0_pay5 i1) (k0_pay6 (k0_pay1 xv rw) (k0_pay2 xv rw) i0) (k0_pay7 (k0_pay1 xv rw) (k0_pay2 xv rw) i1)
    (k0_pay8 (k0_pay1 xv rw) (k0_pay2 xv rw) i0 i1) = gateCol (expertWord d 7#32) xv rw i0 i1 := rfl

end Gates

/-! ## Half blocks -/

section Halves
variable (xv : Vec F S256x512 .f32) (g : Vec F S256x8 .f32) (w : Fin 8 → Vec F S1x512x1024 .bf16)

theorem slot_0 : k0_pay35 (k0_pay20 xv) g
      (k0_pay30 (k0_pay20 xv) g (k0_pay26 (k0_pay20 xv) g k0_pay21 (k0_pay23 (w 0)) (constant S256x1024 .f32 0x00000000#32) (w 1) (w 2)) (w 3) (w 4))
      (k0_pay32 (w 5)) (constant S256x1024 .f32 0x00000000#32) (w 6) (w 7)
    = packed (halfSum xv g w) := rfl
theorem slot_1 : k0_pay40 g (k0_pay38 (k0_pay36 xv) g (k0_pay37 xv g (w 0) (w 1)) (w 2) (w 3) (w 4) (w 5) (w 6)) (k0_pay39 (k0_pay36 xv) (w 7))
    = packed (halfSum xv g w) := rfl
theorem slot_2 : k0_pay46 (k0_pay41 xv) g (k0_pay45 (k0_pay41 xv) g k0_pay42 (k0_pay43 xv (w 0)) (k0_pay44 g) (w 1) (w 2) (w 3) (w 4) (w 5)) (w 6) (w 7)
    = packed (halfSum xv g w) := rfl
theorem slot_3 : k0_pay49 (k0_pay47 xv) g (k0_pay48 (k0_pay47 xv) g (w 0) (w 1) (w 2) (w 3) (w 4)) (w 5) (w 6) (w 7)
    = packed (halfSum xv g w) := rfl
theorem slot_4 : k0_pay53 (k0_pay50 xv) g (k0_pay51 xv g (w 0) (w 1) (w 2)) (k0_pay52 xv g (w 3)) (w 4) (w 5) (w 6) (w 7)
    = packed (halfSum xv g w) := rfl
theorem slot_5 : k0_pay58 (k0_pay57 (k0_pay54 xv) g (k0_pay55 xv g (w 0) (w 1)) (k0_pay56 xv g (w 2)) (w 3) (w 4) (w 5) (w 6) (w 7))
    = packed (halfSum xv g w) := rfl
theorem own_0 : k0_pay63 (k0_pay59 xv) g (k0_pay62 (k0_pay59 xv) g (k0_pay60 xv g (w 0)) (k0_pay61 xv g (w 1)) (w 2) (w 3) (w 4) (w 5) (w 6)) (w 7)
    = halfSum xv g w := rfl
theorem own_1 : k0_pay67 (k0_pay64 xv) g (k0_pay65 xv g (w 0) (w 1) (w 2)) (k0_pay66 (w 3)) (constant S256x1024 .f32 0x00000000#32) (w 4) (w 5) (w 6) (w 7)
    = halfSum xv g w := rfl

end Halves

/-! ## The halves of the result -/

section Result
variable (own : FVec F S256x1024 .f32) (a b c : Vec F S1x256x1024 .bf16)

theorem result_0 : k0_pay71 (k0_pay68 own a) b c = gathered own a b c := rfl
theorem result_1 : k0_pay72 (k0_pay70 (k0_pay69 own a) b) c = gathered own a b c := rfl

end Result

/-! ## Weights -/

section Weights
variable (v : Vec F S1x512x1024 .f32)

theorem weight_1 : k0_pay24 v = weight v := rfl
theorem weight_2 : k0_pay25 v = weight v := rfl
theorem weight_3 : k0_pay28 (k0_pay27 v) = weight v := rfl
theorem weight_4 : k0_pay29 v = weight v := rfl
theorem weight_5 : k0_pay31 v = weight v := rfl
theorem weight_6 : k0_pay33 v = weight v := rfl
theorem weight_7 : k0_pay34 v = weight v := rfl

end Weights

end Cert.KernelIdeal.Moe

end
-- ==== Proof.Slots.lean ====
/-
The half blocks a device sends and its own two, from what its body loads: each is the device's share of the tokens at the
place the program computes.
-/
module

public import proofs.«01_k».proof.Proof.Writes
public import proofs.«01_k».proof.Proof.Payloads

@[expose] public section

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

/-! ## What the stores of gates and weights leave -/

/-- The tokens and the router matrix as the program loads them. -/
abbrev loadX : Vec F S2048x512 .f32 := xM.view.readAt (Elt F) (Rect.unit (s := S2048x512) ![0, 0] S2048x512.size inb_S2048x512_S2048x512_0_0).toLoadRect (xIn m c)
abbrev loadR : Vec F S512x32 .f32 := rM.view.readAt (Elt F) (Rect.unit (s := S512x32) ![0, 0] S512x32.size inb_S512x32_S512x32_0_0).toLoadRect (rIn m c)

section Stored
local notation "Y0" => k0_pay4 (i0In m c)
local notation "Y1" => k0_pay5 (i1In m c)
local notation "Q0" => k0_pay6 (k0_pay1 (loadX m c) (loadR m c)) (k0_pay2 (loadX m c) (loadR m c)) (i0In m c)
local notation "Q1" => k0_pay7 (k0_pay1 (loadX m c) (loadR m c)) (k0_pay2 (loadX m c) (loadR m c)) (i1In m c)
local notation "QQ" => k0_pay8 (k0_pay1 (loadX m c) (loadR m c)) (k0_pay2 (loadX m c) (loadR m c)) (i0In m c) (i1In m c)

/-- The eight gate columns as the program stores them, the last first. -/
abbrev gatePieces : List (View.Piece (Elt F) S2048x8 .f32) :=
  [⟨colR 7, k0_pay19 (place c) Y0 Y1 Q0 Q1 QQ⟩,
   ⟨colR 6, k0_pay18 (place c) Y0 Y1 Q0 Q1 QQ⟩,
   ⟨colR 5, k0_pay17 (place c) Y0 Y1 Q0 Q1 QQ⟩,
   ⟨colR 4, k0_pay16 Y0 Y1 Q0 Q1 QQ (Scalar.addi (Scalar.muli (place c) 8#32) 4#32) (k0_pay15 (place c))⟩,
   ⟨colR 3, k0_pay14 (place c) Y0 Y1 Q0 Q1 QQ⟩,
   ⟨colR 2, k0_pay13 (place c) Y0 Y1 Q0 Q1 QQ⟩,
   ⟨colR 1, k0_pay12 Q1 QQ (k0_pay10 (place c) (k0_pay1 (loadX m c) (loadR m c)) (k0_pay2 (loadX m c) (loadR m c)) (i0In m c)) (k0_pay11 (place c) (i1In m c))⟩,
   ⟨colR 0, k0_pay9 (place c) (k0_pay1 (loadX m c) (loadR m c)) (k0_pay2 (loadX m c) (loadR m c)) (i0In m c) (i1In m c)⟩]

/-- They are the columns of gates, -/
theorem gatePieces_eq : gatePieces m c = colPieces (gateAt m c) := by
  unfold gatePieces loadX loadR
  rw [read_x, read_r, gate_0, gate_1, gate_2, gate_3, gate_4, gate_5, gate_6, gate_7]
  rfl

/-- and leave the array of gates. -/
theorem gates_stored (f : (cc0_scratch0 : Ref sig .tc).ty.Contents (Elt F)) : gM.view.writes (Elt F) f (gatePieces m c) = gates m c := by
  rw [gatePieces_eq]; exact cols_written f (gateAt m c)

end Stored

/-- An expert's matrix as the program loads it. -/
abbrev loadW (j : Fin 8) : Vec F S1x512x1024 .f32 := wM.view.readAt (Elt F) (rowR j).toLoadRect (wIn m c)

/-- The first matrices as the program stores them, the last first. -/
abbrev wp1 : List (View.Piece (Elt F) S8x512x1024 .bf16) := [⟨rowR 0, k0_pay22 (loadW m c 0)⟩]
abbrev wp2 : List (View.Piece (Elt F) S8x512x1024 .bf16) := ⟨rowR 1, k0_pay24 (loadW m c 1)⟩ :: wp1 m c
abbrev wp3 : List (View.Piece (Elt F) S8x512x1024 .bf16) := ⟨rowR 2, k0_pay25 (loadW m c 2)⟩ :: wp2 m c
abbrev wp4 : List (View.Piece (Elt F) S8x512x1024 .bf16) := ⟨rowR 3, k0_pay28 (k0_pay27 (loadW m c 3))⟩ :: wp3 m c
abbrev wp5 : List (View.Piece (Elt F) S8x512x1024 .bf16) := ⟨rowR 4, k0_pay29 (loadW m c 4)⟩ :: wp4 m c
abbrev wp6 : List (View.Piece (Elt F) S8x512x1024 .bf16) := ⟨rowR 5, k0_pay31 (loadW m c 5)⟩ :: wp5 m c
abbrev wp7 : List (View.Piece (Elt F) S8x512x1024 .bf16) := ⟨rowR 6, k0_pay33 (loadW m c 6)⟩ :: wp6 m c
abbrev wp8 : List (View.Piece (Elt F) S8x512x1024 .bf16) := ⟨rowR 7, k0_pay34 (loadW m c 7)⟩ :: wp7 m c

/-- All eight leave the array of weights. -/
theorem weights_stored (f : (cc0_scratch1 : Ref sig .tc).ty.Contents (Elt F)) : eM.view.writes (Elt F) f (wp8 m c) = weights m c := by
  have h : wp8 m c = rowPieces (weightAt m c) := rfl
  rw [h]; exact rows_written f (weightAt m c)

/-- The eight matrices loaded each just after its store. -/
abbrev first0 : Vec F S1x512x1024 .bf16 := eM.view.readCov (wp1 m c) (rowR 0).toLoadRect
abbrev first1 : Vec F S1x512x1024 .bf16 := eM.view.readCov (wp2 m c) (rowR 1).toLoadRect
abbrev first2 : Vec F S1x512x1024 .bf16 := eM.view.readCov (wp3 m c) (rowR 2).toLoadRect
abbrev first3 : Vec F S1x512x1024 .bf16 := eM.view.readCov (wp4 m c) (rowR 3).toLoadRect
abbrev first4 : Vec F S1x512x1024 .bf16 := eM.view.readCov (wp5 m c) (rowR 4).toLoadRect
abbrev first5 : Vec F S1x512x1024 .bf16 := eM.view.readCov (wp6 m c) (rowR 5).toLoadRect
abbrev first6 : Vec F S1x512x1024 .bf16 := eM.view.readCov (wp7 m c) (rowR 6).toLoadRect
abbrev first7 : Vec F S1x512x1024 .bf16 := eM.view.readCov (wp8 m c) (rowR 7).toLoadRect

theorem first0_eq : first0 m c = weightAt m c 0 := by unfold first0 wp1; rw [View.readCov_cons_toLoadRect]; rfl
theorem first1_eq : first1 m c = weightAt m c 1 := by unfold first1 wp2; rw [View.readCov_cons_toLoadRect]; rfl
theorem first2_eq : first2 m c = weightAt m c 2 := by unfold first2 wp3; rw [View.readCov_cons_toLoadRect]; rfl
theorem first3_eq : first3 m c = weightAt m c 3 := by unfold first3 wp4; rw [View.readCov_cons_toLoadRect]; rfl
theorem first4_eq : first4 m c = weightAt m c 4 := by unfold first4 wp5; rw [View.readCov_cons_toLoadRect]; rfl
theorem first5_eq : first5 m c = weightAt m c 5 := by unfold first5 wp6; rw [View.readCov_cons_toLoadRect]; rfl
theorem first6_eq : first6 m c = weightAt m c 6 := by unfold first6 wp7; rw [View.readCov_cons_toLoadRect]; rfl
theorem first7_eq : first7 m c = weightAt m c 7 := by unfold first7 wp8; rw [View.readCov_cons_toLoadRect]; rfl

/-- The tokens the program loads for the half `h` of the peer `r₁ + 1` places on, -/
abbrev peerX (r₁ : Fin 3) (h : Fin 2) : Vec F S256x512 .f32 :=
  xM.view.readAt (Elt F) (Rect.unit (s := S2048x512) (k0_off1 c (BitVec.ofNat 32 (1 + r₁.val)) (BitVec.ofNat 32 (256 * h.val))) S256x512.size (k0_off1_inb c r₁ h)).toLoadRect (xIn m c)
/-- and the gates, from an array `g`. -/
abbrev peerG (r₁ : Fin 3) (h : Fin 2) (g : (cc0_scratch0 : Ref sig .tc).ty.Contents (Elt F)) : Vec F S256x8 .f32 :=
  gM.view.readAt (Elt F) (Rect.unit (s := S2048x8) (k0_off2 c (BitVec.ofNat 32 (1 + r₁.val)) (BitVec.ofNat 32 (256 * h.val))) S256x8.size (k0_off2_inb c r₁ h)).toLoadRect g
/-- The tokens the program loads for the device's own half `h`, -/
abbrev ownX (h : Fin 2) : Vec F S256x512 .f32 :=
  xM.view.readAt (Elt F) (Rect.unit (s := S2048x512) (k0_off3 c (BitVec.ofNat 32 (256 * h.val))) S256x512.size (k0_off3_inb c h)).toLoadRect (xIn m c)
/-- and the gates. -/
abbrev ownG (h : Fin 2) (g : (cc0_scratch0 : Ref sig .tc).ty.Contents (Elt F)) : Vec F S256x8 .f32 :=
  gM.view.readAt (Elt F) (Rect.unit (s := S2048x8) (k0_off4 c (BitVec.ofNat 32 (256 * h.val))) S256x8.size (k0_off4_inb c h)).toLoadRect g
/-- The eight matrices the program loads. -/
abbrev rowsE : Fin 8 → Vec F S1x512x1024 .bf16 := fun j => eM.view.readAt (Elt F) (rowR j).toLoadRect (weights m c)

theorem rowsE_eq : rowsE m c = weightAt m c := funext (read_weights m c)

/-- The value stored in slot `s`, where the slot's peer is `r₁ + 1` places on. -/
theorem slot_peer (s : Fin 6) (r₁ : Fin 3) (hs : tgt (grp s) c = around (r₁.val + 1) c) (g : (cc0_scratch0 : Ref sig .tc).ty.Contents (Elt F)) (hg : g = gates m c)
    (w : Fin 8 → Vec F S1x512x1024 .bf16) (hw : w = weightAt m c) :
    packed (halfSum (peerX m c r₁ (hlf s)) (peerG c r₁ (hlf s) g) w) = slotVal m c s := by
  subst hg hw
  unfold slotVal share peerX peerG
  rw [tokens_peer, gates_peer, hs]

/-- The device's own half. -/
theorem own_share (h : Fin 2) : halfSum (ownX m c h) (ownG c h (gates m c)) (rowsE m c) = share m c c h := by
  unfold share ownX ownG
  rw [tokens_own, gates_own, rowsE_eq]

section Values
local notation "E" => rowsE m c

/-- The first slot's value, where the gates are read from what their stores left of an array `f`. -/
theorem value_0 (f : (cc0_scratch0 : Ref sig .tc).ty.Contents (Elt F)) :
    k0_pay35 (k0_pay20 (peerX m c 0 0)) (peerG c 0 0 (gM.view.writes (Elt F) f (gatePieces m c)))
      (k0_pay30 (k0_pay20 (peerX m c 0 0)) (peerG c 0 0 (gM.view.writes (Elt F) f (gatePieces m c)))
        (k0_pay26 (k0_pay20 (peerX m c 0 0)) (peerG c 0 0 (gM.view.writes (Elt F) f (gatePieces m c))) k0_pay21 (k0_pay23 (first0 m c)) (constant S256x1024 .f32 0x00000000#32) (first1 m c) (first2 m c)) (first3 m c) (first4 m c))
      (k0_pay32 (first5 m c)) (constant S256x1024 .f32 0x00000000#32) (first6 m c) (first7 m c)
    = slotVal m c 0 := by
  rw [first0_eq, first1_eq, first2_eq, first3_eq, first4_eq, first5_eq, first6_eq, first7_eq]
  exact (slot_0 _ _ (weightAt m c)).trans (slot_peer m c 0 0 rfl _ (gates_stored m c f) _ rfl)
theorem value_1 : k0_pay40 (peerG c 0 1 (gates m c)) (k0_pay38 (k0_pay36 (peerX m c 0 1)) (peerG c 0 1 (gates m c)) (k0_pay37 (peerX m c 0 1) (peerG c 0 1 (gates m c)) (E 0) (E 1)) (E 2) (E 3) (E 4) (E 5) (E 6))
    (k0_pay39 (k0_pay36 (peerX m c 0 1)) (E 7)) = slotVal m c 1 :=
  (slot_1 _ _ E).trans (slot_peer m c 1 0 rfl _ rfl _ (rowsE_eq m c))
theorem value_2 : k0_pay46 (k0_pay41 (peerX m c 2 0)) (peerG c 2 0 (gates m c)) (k0_pay45 (k0_pay41 (peerX m c 2 0)) (peerG c 2 0 (gates m c)) k0_pay42 (k0_pay43 (peerX m c 2 0) (E 0)) (k0_pay44 (peerG c 2 0 (gates m c))) (E 1) (E 2) (E 3) (E 4) (E 5)) (E 6) (E 7)
    = slotVal m c 2 :=
  (slot_2 _ _ E).trans (slot_peer m c 2 2 rfl _ rfl _ (rowsE_eq m c))
theorem value_3 : k0_pay49 (k0_pay47 (peerX m c 2 1)) (peerG c 2 1 (gates m c)) (k0_pay48 (k0_pay47 (peerX m c 2 1)) (peerG c 2 1 (gates m c)) (E 0) (E 1) (E 2) (E 3) (E 4)) (E 5) (E 6) (E 7)
    = slotVal m c 3 :=
  (slot_3 _ _ E).trans (slot_peer m c 3 2 rfl _ rfl _ (rowsE_eq m c))
theorem value_4 : k0_pay53 (k0_pay50 (peerX m c 1 0)) (peerG c 1 0 (gates m c)) (k0_pay51 (peerX m c 1 0) (peerG c 1 0 (gates m c)) (E 0) (E 1) (E 2)) (k0_pay52 (peerX m c 1 0) (peerG c 1 0 (gates m c)) (E 3)) (E 4) (E 5) (E 6) (E 7)
    = slotVal m c 4 :=
  (slot_4 _ _ E).trans (slot_peer m c 4 1 rfl _ rfl _ (rowsE_eq m c))
theorem value_5 : k0_pay58 (k0_pay57 (k0_pay54 (peerX m c 1 1)) (peerG c 1 1 (gates m c)) (k0_pay55 (peerX m c 1 1) (peerG c 1 1 (gates m c)) (E 0) (E 1)) (k0_pay56 (peerX m c 1 1) (peerG c 1 1 (gates m c)) (E 2)) (E 3) (E 4) (E 5) (E 6) (E 7))
    = slotVal m c 5 :=
  (slot_5 _ _ E).trans (slot_peer m c 5 1 rfl _ rfl _ (rowsE_eq m c))
theorem value_own_0 : k0_pay63 (k0_pay59 (ownX m c 0)) (ownG c 0 (gates m c)) (k0_pay62 (k0_pay59 (ownX m c 0)) (ownG c 0 (gates m c)) (k0_pay60 (ownX m c 0) (ownG c 0 (gates m c)) (E 0)) (k0_pay61 (ownX m c 0) (ownG c 0 (gates m c)) (E 1)) (E 2) (E 3) (E 4) (E 5) (E 6)) (E 7)
    = share m c c 0 := (own_0 _ _ E).trans (own_share m c 0)
theorem value_own_1 : k0_pay67 (k0_pay64 (ownX m c 1)) (ownG c 1 (gates m c)) (k0_pay65 (ownX m c 1) (ownG c 1 (gates m c)) (E 0) (E 1) (E 2)) (k0_pay66 (E 3)) (constant S256x1024 .f32 0x00000000#32) (E 4) (E 5) (E 6) (E 7)
    = share m c c 1 := (own_1 _ _ E).trans (own_share m c 1)

/-- The two halves of the result as the program stores them. -/
abbrev storedOut : List (View.Piece (Elt F) S512x1024 .f32) :=
  [⟨halfR 1, k0_pay72 (k0_pay70 (k0_pay69 (k0_pay67 (k0_pay64 (ownX m c 1)) (ownG c 1 (gates m c)) (k0_pay65 (ownX m c 1) (ownG c 1 (gates m c)) (E 0) (E 1) (E 2)) (k0_pay66 (E 3)) (constant S256x1024 .f32 0x00000000#32) (E 4) (E 5) (E 6) (E 7)) (slotVal m (src 0 c) 1)) (slotVal m (src 1 c) 3)) (slotVal m (src 2 c) 5)⟩,
   ⟨halfR 0, k0_pay71 (k0_pay68 (k0_pay63 (k0_pay59 (ownX m c 0)) (ownG c 0 (gates m c)) (k0_pay62 (k0_pay59 (ownX m c 0)) (ownG c 0 (gates m c)) (k0_pay60 (ownX m c 0) (ownG c 0 (gates m c)) (E 0)) (k0_pay61 (ownX m c 0) (ownG c 0 (gates m c)) (E 1)) (E 2) (E 3) (E 4) (E 5) (E 6)) (E 7)) (slotVal m (src 0 c) 0)) (slotVal m (src 1 c) 2) (slotVal m (src 2 c) 4)⟩]

/-- They leave the device's block of the result. -/
theorem out_stored (f : (cc0_stg4_0 : Ref sig .tc).ty.Contents (Elt F)) : oM.view.writes (Elt F) f (storedOut m c) = outAt m c := by
  have h : storedOut m c = halfPieces (outHalf m c) := by
    unfold storedOut
    rw [value_own_0, value_own_1, result_0, result_1]
    rfl
  rw [h]; exact halves_written f (outHalf m c)

end Values

end Cert.KernelIdeal.Moe

end
-- ==== Proof.Body.lean ====
/-
The kernel's body on one device, executed from what the launch gives it to what it gives back.
-/
module

public import proofs.«01_k».proof.Proof.State
public import proofs.«01_k».proof.Proof.Writes
public import proofs.«01_k».proof.Proof.Slots
public import proofs.«01_k».proof.Proof.Gen.KernelIdeal.Skeleton

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A staging or scratch buffer of device `c`, whole, at contents `f`. -/
def held (c : Dev nD) {sp : CoreSpace} {s : Shape} {e : EltTy} (M : Memref sig .tc sp s e) (f : M.view.ty.Contents (Elt F)) : sProp 𝕄 :=
  M.view.loc (c : Thread nD τ) ↦[M.view.set]{fullShare} f

omit [FloatOps F] in
theorem held_gM (c : Dev nD) (f : (cc0_scratch0 : Ref sig .tc).ty.Contents (Elt F)) : (((c : Thread nD τ).loc cc0_scratch0) ↦{fullShare} f : sProp 𝕄) = held c gM f :=
  congrArg (fun S => (((c : Thread nD τ).loc cc0_scratch0) ↦[S]{fullShare} f : sProp 𝕄)) (View.set_whole cc0_scratch0).symm
omit [FloatOps F] in
theorem held_eM (c : Dev nD) (f : (cc0_scratch1 : Ref sig .tc).ty.Contents (Elt F)) : (((c : Thread nD τ).loc cc0_scratch1) ↦{fullShare} f : sProp 𝕄) = held c eM f :=
  congrArg (fun S => (((c : Thread nD τ).loc cc0_scratch1) ↦[S]{fullShare} f : sProp 𝕄)) (View.set_whole cc0_scratch1).symm

omit [FloatOps F] in
/-- A finished step hands its value to the program that follows it. -/
theorem ret_bind {α β : Type} (a : α) (k : α → Prog (TpuEff nD τ sig (Elt F) Λ₀ .tc) β) : (Prog.ret a).bind k = k a := rfl

/-- The four inputs as the body finds them and leaves them. -/
def inputs (c : Dev nD) : sProp 𝕄 := iprop(held c xM (xIn m c) ∗ held c rM (rIn m c) ∗ held c iM (iIn m c) ∗ held c wM (wIn m c))

set_option maxHeartbeats 1000000 in
/-- The body, effect by effect in program order. -/
theorem run_body (K : Dev nD × Option (Fin 12) → ℕ) (c : Dev nD) (Kt : PUnit → sProp 𝕄) :
      iprop((records m K ∗ places c ∗ payToks c ∗ dues c ∗ levAts L lv ∗ scratch c ∗ bill c (O₀ c) ∗ inputs m c ∗ (∃ f, held c oM f))
      ∗ ((Φ₁ c ∗ bill c 0 ∗ inputs m c ∗ held c oM (outAt m c)) -∗ Kt ⟨⟩))
      ⊢ wp frame (wpE (defs₀ (F := F)) 𝒱₀ c none) Set.univ
          (cc0_body xM (Memref.isWhole_whole _) rM (Memref.isWhole_whole _) iM (Memref.isWhole_whole _) wM (Memref.isWhole_whole _) oM (Memref.isWhole_whole _)
            gM (Memref.isWhole_whole _) eM (Memref.isWhole_whole _) sM (Memref.isWhole_whole _) vM (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold places payToks dues scratch
  simp only [bigSep_cells, bigSep_fin3, bigSep_fin6]
  iintro ⟨⟨#HR, ⟨HaB, ⟨HaS0, HaS1, HaS2, HaS3, HaS4, HaS5⟩, HaV0, HaV1, HaV2, HaV3, HaV4, HaV5⟩,
    ⟨⟨Hb0, Hb1, Hb2⟩, ⟨Hs0, Hs1, Hs2, Hs3, Hs4, Hs5⟩, Hv0, Hv1, Hv2, Hv3, Hv4, Hv5⟩,
    ⟨HcB, HcV0, HcV1, HcV2, HcV3, HcV4, HcV5⟩, #Hlev, ⟨⟨%fg, HG⟩, ⟨%fe, HE⟩, ⟨%fs, HS⟩, ⟨%fv, HV⟩⟩, HO, HIn, ⟨%fo, HOut⟩⟩, Hk⟩
  ihave HS' := (Entails.of_eq (sPts_split c fs)) $$ HS
  ihave HV' := (Entails.of_eq (vPts_split c fv)) $$ HV
  simp only [bigSep_fin6]
  icases HS' with ⟨HS0, HS1, HS2, HS3, HS4, HS5⟩
  icases HV' with ⟨HV0, HV1, HV2, HV3, HV4, HV5⟩
  ihave HG' := (Entails.of_eq (held_gM c fg)) $$ HG
  ihave HE' := (Entails.of_eq (held_eM c fe)) $$ HE
  unfold inputs
  icases HIn with ⟨HX, HRt, HI, HW⟩
  unfold held
  sl_exec
  -- the three signals and the barrier wait
  iapply (wp_signal_peer m K c _ 1 (Fin.ext (k0_dev1_eq c)) (O₀ c) (O₁ c) rfl) $$ [HO Hb1 HV2 HV3]
  · isplitr; · iexact HR
    isplitl [HO]; · iexact HO
    isplitl [Hb1]; · iexact Hb1
    isplitl [HV2]; · iexists fv; iexact HV2
    iexists fv; iexact HV3
  iintro HO
  sl_exec
  iapply (wp_signal_peer m K c _ 2 (Fin.ext (k0_dev2_eq c)) (O₁ c) (O₂ c) rfl) $$ [HO Hb2 HV4 HV5]
  · isplitr; · iexact HR
    isplitl [HO]; · iexact HO
    isplitl [Hb2]; · iexact Hb2
    isplitl [HV4]; · iexists fv; iexact HV4
    iexists fv; iexact HV5
  iintro HO
  sl_exec
  iapply (wp_signal_peer m K c _ 0 (Fin.ext (k0_dev3_eq c)) (O₂ c) (sendsLeft c 6) rfl) $$ [HO Hb0 HV0 HV1]
  · isplitr; · iexact HR
    isplitl [HO]; · iexact HO
    isplitl [Hb0]; · iexact Hb0
    isplitl [HV0]; · iexists fv; iexact HV0
    iexists fv; iexact HV1
  iintro HO
  sl_exec
  iapply (wp_barrier m K c 6) $$ [HO HcB HaB]
  · isplitr; · iexact HR
    isplitl [HO]; · iexact HO
    isplitl [HcB]; · iexact HcB
    isplitr; · iexact Hlev
    iexact HaB
  unfold barPay
  iintro ⟨HO, HzB, ⟨HP0, HP1⟩, ⟨HP2, HP3⟩, ⟨HP4, HP5⟩⟩
  sl_exec
  have hG : gM.view.writes (Elt F) gM.view.junk (run_body.sl.HG'_8 m c) = gates m c := gates_stored m c _
  have hE : eM.view.writes (Elt F) fe (run_body.sl.HE'_8 m c) = weights m c := weights_stored m c fe
  rw [hG, hE]
  iapply (wp_peek c 0 rfl fs) $$ HS0
  iintro HS0
  sl_exec
  have hv0 : run_body.sl.r_18 m c = slotVal m c 0 := value_0 m c _
  iapply (wp_fill m c 0 rfl _ (heq_of_eq hv0) fs) $$ HS0
  iintro HS0
  sl_exec
  iapply (wp_send_slot m K c 0 5 rfl _ (Fin.ext (k0_dev4_eq c)) rfl rfl rfl rfl) $$ [HO HS0 HP0 Hs0 Hv0]
  · isplitr; · iexact HR
    isplitl [HO]; · iexact HO
    isplitl [HS0]; · iexact HS0
    isplitl [HP0]; · iexact HP0
    isplitl [Hs0]; · iexact Hs0
    iexact Hv0
  iintro ⟨HcS0, HO⟩
  sl_exec
  iapply (wp_peek c 1 rfl fs) $$ HS1
  iintro HS1
  try sl_exec
  iapply (wp_fill m c 1 rfl _ (heq_of_eq (value_1 m c)) fs) $$ HS1
  iintro HS1
  first | sl_exec | (rw [ret_bind]; sl_exec) | skip
  iapply (wp_send_slot m K c 1 4 rfl _ (Fin.ext (k0_dev5_eq c)) rfl rfl rfl rfl) $$ [HO HS1 HP1 Hs1 Hv1]
  · isplitr; · iexact HR
    isplitl [HO]; · iexact HO
    isplitl [HS1]; · iexact HS1
    isplitl [HP1]; · iexact HP1
    isplitl [Hs1]; · iexact Hs1
    iexact Hv1
  iintro ⟨HcS1, HO⟩
  first | sl_exec | (rw [ret_bind]; sl_exec)
  iapply (wp_peek c 2 rfl fs) $$ HS2
  iintro HS2
  try sl_exec
  iapply (wp_fill m c 2 rfl _ (heq_of_eq (value_2 m c)) fs) $$ HS2
  iintro HS2
  first | sl_exec | (rw [ret_bind]; sl_exec) | skip
  iapply (wp_send_slot m K c 2 3 rfl _ (Fin.ext (k0_dev6_eq c)) rfl rfl rfl rfl) $$ [HO HS2 HP2 Hs2 Hv2]
  · isplitr; · iexact HR
    isplitl [HO]; · iexact HO
    isplitl [HS2]; · iexact HS2
    isplitl [HP2]; · iexact HP2
    isplitl [Hs2]; · iexact Hs2
    iexact Hv2
  iintro ⟨HcS2, HO⟩
  first | sl_exec | (rw [ret_bind]; sl_exec)
  iapply (wp_peek c 3 rfl fs) $$ HS3
  iintro HS3
  try sl_exec
  iapply (wp_fill m c 3 rfl _ (heq_of_eq (value_3 m c)) fs) $$ HS3
  iintro HS3
  first | sl_exec | (rw [ret_bind]; sl_exec) | skip
  iapply (wp_send_slot m K c 3 2 rfl _ (Fin.ext (k0_dev7_eq c)) rfl rfl rfl rfl) $$ [HO HS3 HP3 Hs3 Hv3]
  · isplitr; · iexact HR
    isplitl [HO]; · iexact HO
    isplitl [HS3]; · iexact HS3
    isplitl [HP3]; · iexact HP3
    isplitl [Hs3]; · iexact Hs3
    iexact Hv3
  iintro ⟨HcS3, HO⟩
  first | sl_exec | (rw [ret_bind]; sl_exec)
  iapply (wp_peek c 4 rfl fs) $$ HS4
  iintro HS4
  try sl_exec
  iapply (wp_fill m c 4 rfl _ (heq_of_eq (value_4 m c)) fs) $$ HS4
  iintro HS4
  first | sl_exec | (rw [ret_bind]; sl_exec) | skip
  iapply (wp_send_slot m K c 4 1 rfl _ (Fin.ext (k0_dev8_eq c)) rfl rfl rfl rfl) $$ [HO HS4 HP4 Hs4 Hv4]
  · isplitr; · iexact HR
    isplitl [HO]; · iexact HO
    isplitl [HS4]; · iexact HS4
    isplitl [HP4]; · iexact HP4
    isplitl [Hs4]; · iexact Hs4
    iexact Hv4
  iintro ⟨HcS4, HO⟩
  first | sl_exec | (rw [ret_bind]; sl_exec)
  iapply (wp_peek c 5 rfl fs) $$ HS5
  iintro HS5
  try sl_exec
  iapply (wp_fill m c 5 rfl _ (heq_of_eq (value_5 m c)) fs) $$ HS5
  iintro HS5
  first | sl_exec | (rw [ret_bind]; sl_exec) | skip
  iapply (wp_send_slot m K c 5 0 rfl _ (Fin.ext (k0_dev9_eq c)) rfl rfl rfl rfl) $$ [HO HS5 HP5 Hs5 Hv5]
  · isplitr; · iexact HR
    isplitl [HO]; · iexact HO
    isplitl [HS5]; · iexact HS5
    isplitl [HP5]; · iexact HP5
    isplitl [Hs5]; · iexact Hs5
    iexact Hv5
  iintro ⟨HcS5, HO⟩
  first | sl_exec | (rw [ret_bind]; sl_exec)
  iapply (wp_wait_recv m K c 0 (A := slotM sM 0) (B := slotM vM 0) rfl rfl) $$ [HO HcV0 HaV0]
  · isplitr; · iexact HR
    isplitl [HO]; · iexact HO
    isplitl [HcV0]; · iexact HcV0
    iexact HaV0
  iintro ⟨HO, HzV0, HV0⟩
  first | sl_exec | (rw [ret_bind]; first | sl_exec | skip) | skip
  iapply (wp_take m c 0 rfl (slotVal m (src (grp 0) c) 0) HEq.rfl) $$ HV0
  iintro HV0
  first | sl_exec | (rw [ret_bind]; first | sl_exec | skip) | skip
  iapply (wp_wait_recv m K c 1 (A := slotM sM 1) (B := slotM vM 1) rfl rfl) $$ [HO HcV1 HaV1]
  · isplitr; · iexact HR
    isplitl [HO]; · iexact HO
    isplitl [HcV1]; · iexact HcV1
    iexact HaV1
  iintro ⟨HO, HzV1, HV1⟩
  first | sl_exec | (rw [ret_bind]; first | sl_exec | skip) | skip
  iapply (wp_take m c 1 rfl (slotVal m (src (grp 1) c) 1) HEq.rfl) $$ HV1
  iintro HV1
  first | sl_exec | (rw [ret_bind]; first | sl_exec | skip) | skip
  iapply (wp_wait_recv m K c 2 (A := slotM sM 2) (B := slotM vM 2) rfl rfl) $$ [HO HcV2 HaV2]
  · isplitr; · iexact HR
    isplitl [HO]; · iexact HO
    isplitl [HcV2]; · iexact HcV2
    iexact HaV2
  iintro ⟨HO, HzV2, HV2⟩
  first | sl_exec | (rw [ret_bind]; first | sl_exec | skip) | skip
  iapply (wp_take m c 2 rfl (slotVal m (src (grp 2) c) 2) HEq.rfl) $$ HV2
  iintro HV2
  first | sl_exec | (rw [ret_bind]; first | sl_exec | skip) | skip
  iapply (wp_wait_recv m K c 3 (A := slotM sM 3) (B := slotM vM 3) rfl rfl) $$ [HO HcV3 HaV3]
  · isplitr; · iexact HR
    isplitl [HO]; · iexact HO
    isplitl [HcV3]; · iexact HcV3
    iexact HaV3
  iintro ⟨HO, HzV3, HV3⟩
  first | sl_exec | (rw [ret_bind]; first | sl_exec | skip) | skip
  iapply (wp_take m c 3 rfl (slotVal m (src (grp 3) c) 3) HEq.rfl) $$ HV3
  iintro HV3
  first | sl_exec | (rw [ret_bind]; first | sl_exec | skip) | skip
  iapply (wp_wait_recv m K c 4 (A := slotM sM 4) (B := slotM vM 4) rfl rfl) $$ [HO HcV4 HaV4]
  · isplitr; · iexact HR
    isplitl [HO]; · iexact HO
    isplitl [HcV4]; · iexact HcV4
    iexact HaV4
  iintro ⟨HO, HzV4, HV4⟩
  first | sl_exec | (rw [ret_bind]; first | sl_exec | skip) | skip
  iapply (wp_take m c 4 rfl (slotVal m (src (grp 4) c) 4) HEq.rfl) $$ HV4
  iintro HV4
  first | sl_exec | (rw [ret_bind]; first | sl_exec | skip) | skip
  iapply (wp_wait_recv m K c 5 (A := slotM sM 5) (B := slotM vM 5) rfl rfl) $$ [HO HcV5 HaV5]
  · isplitr; · iexact HR
    isplitl [HO]; · iexact HO
    isplitl [HcV5]; · iexact HcV5
    iexact HaV5
  iintro ⟨HO, HzV5, HV5⟩
  first | sl_exec | (rw [ret_bind]; first | sl_exec | skip) | skip
  iapply (wp_take m c 5 rfl (slotVal m (src (grp 5) c) 5) HEq.rfl) $$ HV5
  iintro HV5
  first | sl_exec | (rw [ret_bind]; first | sl_exec | skip) | skip
  iapply (wp_wait_send m K c 0 (A := slotM vM 0) (B := slotM sM 0) rfl rfl) $$ [HO HcS0 HaS0]
  · isplitr; · iexact HR
    isplitl [HO]; · iexact HO
    isplitl [HcS0]; · iexact HcS0
    iexact HaS0
  iintro ⟨HO, HzS0, HS0⟩
  first | sl_exec | (rw [ret_bind]; first | sl_exec | skip) | skip
  iapply (wp_wait_send m K c 1 (A := slotM vM 1) (B := slotM sM 1) rfl rfl) $$ [HO HcS1 HaS1]
  · isplitr; · iexact HR
    isplitl [HO]; · iexact HO
    isplitl [HcS1]; · iexact HcS1
    iexact HaS1
  iintro ⟨HO, HzS1, HS1⟩
  first | sl_exec | (rw [ret_bind]; first | sl_exec | skip) | skip
  iapply (wp_wait_send m K c 2 (A := slotM vM 2) (B := slotM sM 2) rfl rfl) $$ [HO HcS2 HaS2]
  · isplitr; · iexact HR
    isplitl [HO]; · iexact HO
    isplitl [HcS2]; · iexact HcS2
    iexact HaS2
  iintro ⟨HO, HzS2, HS2⟩
  first | sl_exec | (rw [ret_bind]; first | sl_exec | skip) | skip
  iapply (wp_wait_send m K c 3 (A := slotM vM 3) (B := slotM sM 3) rfl rfl) $$ [HO HcS3 HaS3]
  · isplitr; · iexact HR
    isplitl [HO]; · iexact HO
    isplitl [HcS3]; · iexact HcS3
    iexact HaS3
  iintro ⟨HO, HzS3, HS3⟩
  first | sl_exec | (rw [ret_bind]; first | sl_exec | skip) | skip
  iapply (wp_wait_send m K c 4 (A := slotM vM 4) (B := slotM sM 4) rfl rfl) $$ [HO HcS4 HaS4]
  · isplitr; · iexact HR
    isplitl [HO]; · iexact HO
    isplitl [HcS4]; · iexact HcS4
    iexact HaS4
  iintro ⟨HO, HzS4, HS4⟩
  first | sl_exec | (rw [ret_bind]; first | sl_exec | skip) | skip
  iapply (wp_wait_send m K c 5 (A := slotM vM 5) (B := slotM sM 5) rfl rfl) $$ [HO HcS5 HaS5]
  · isplitr; · iexact HR
    isplitl [HO]; · iexact HO
    isplitl [HcS5]; · iexact HcS5
    iexact HaS5
  iintro ⟨HO, HzS5, HS5⟩
  first | sl_exec | (rw [ret_bind]; first | sl_exec | skip) | skip
  -- everything is where it was, and the result is written
  rw [wp_ret]; imodintro
  have hO : oM.view.writes (Elt F) fo [⟨Rect.unit (s := S512x1024) ![256, 0] S256x1024.size inb_S512x1024_S256x1024_256_0, k0_pay72 (run_body.sl.r_55 m c) (slotVal m (src (grp 5) c) 5)⟩,
      ⟨Rect.unit (s := S512x1024) ![0, 0] S256x1024.size inb_S512x1024_S256x1024_0_0, run_body.sl.r_56 m c⟩] = outAt m c := out_stored m c fo
  rw [hO]
  ihave HS := (Entails.of_eq ((sPts_split c (sent m c)).trans (bigSep_fin6 _)).symm) $$ [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  ihave HV := (Entails.of_eq ((vPts_split c (landed m c)).trans (bigSep_fin6 _)).symm) $$ [HV0 HV1 HV2 HV3 HV4 HV5]
  · isplitl [HV0]; · iexact HV0
    isplitl [HV1]; · iexact HV1
    isplitl [HV2]; · iexact HV2
    isplitl [HV3]; · iexact HV3
    isplitl [HV4]; · iexact HV4
    iexact HV5
  ihave HG := (Entails.of_eq (held_gM c (gates m c)).symm) $$ [HG']
  · unfold held; iexact HG'
  ihave HE := (Entails.of_eq (held_eM c (weights m c)).symm) $$ [HE']
  · unfold held; iexact HE'
  iapply Hk
  isplitl [HG HE HS HV HzB HzS0 HzS1 HzS2 HzS3 HzS4 HzS5 HzV0 HzV1 HzV2 HzV3 HzV4 HzV5]
  · unfold Φ₁ scratch
    isplitl [HG HE HS HV]
    · isplitl [HG]; · iexists _; iexact HG
      isplitl [HE]; · iexists _; iexact HE
      isplitl [HS]; · iexists _; iexact HS
      iexists _; iexact HV
    rw [bigSep_cells, bigSep_fin6, bigSep_fin6]
    isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4]; · iexact HzS4
      iexact HzS5
    isplitl [HzV0]; · iexact HzV0
    isplitl [HzV1]; · iexact HzV1
    isplitl [HzV2]; · iexact HzV2
    isplitl [HzV3]; · iexact HzV3
    isplitl [HzV4]; · iexact HzV4
    iexact HzV5
  isplitl [HO]; · iexact HO
  isplitl [HX HRt HI HW]
  · isplitl [HX]; · iexact HX
    isplitl [HRt]; · iexact HRt
    isplitl [HI]; · iexact HI
    iexact HW
  iexact HOut

end Cert.KernelIdeal.Moe

end
-- ==== Proof.Region.lean ====
/-
The kernel's region on one device: what its windows hold before and after its one point, what its body owes, and the
body's obligation.
-/
module

public import proofs.«01_k».proof.Proof.Body
public import proofs.«01_k».proof.Proof.Gen.KernelIdeal.Points
public import Idealize.ShloMosaic.Lib.Tactic

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The region's windows: the inputs stay as they are fetched, the result's block is written; before the point the body's
    start and its full bill, after it the scratch and the closed cells. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rIn m c
    | ⟨2, _⟩ => iIn m c
    | ⟨3, _⟩ => wIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A memref owned at `X` is its buffer held at the one contents that reads as `X`. -/
theorem owns_held (c : Dev nD) {sp : CoreSpace} {s : Shape} {e : EltTy} (M : Memref sig .tc sp s e) (X : s.Idx → Elt F e)
    (f₀ : Buf (Elt F) (M.view.loc (c : Thread nD τ))) (h : ∀ f : Buf (Elt F) (M.view.loc (c : Thread nD τ)), M.view.read (Elt F) f = X ↔ f = f₀) :
    (owns (c : Thread nD τ) M fullShare X : sProp 𝕄) = held c M f₀ := by
  unfold owns held
  refine BI.Entails.antisymm
    (show iprop(∃ f, ⌜M.view.read (Elt F) f = X⌝ ∗ (M.view.loc (c : Thread nD τ) ↦[M.view.set]{fullShare} f))
      ⊢ (M.view.loc (c : Thread nD τ) ↦[M.view.set]{fullShare} f₀) from ?_)
    (show (M.view.loc (c : Thread nD τ) ↦[M.view.set]{fullShare} f₀)
      ⊢ iprop(∃ f, ⌜M.view.read (Elt F) f = X⌝ ∗ (M.view.loc (c : Thread nD τ) ↦[M.view.set]{fullShare} f)) from ?_)
  · iintro ⟨%f, %hf, H⟩
    obtain rfl := (h f).mp hf
    iexact H
  · iintro H
    iexists f₀
    isplitr; · (ipureintro; exact (h f₀).mpr rfl)
    iexact H
theorem owns_x (c : Dev nD) (X) : (owns (c : Thread nD τ) xM fullShare X : sProp 𝕄) = held c xM X := owns_held c xM X X fun f => by rw [View.read_whole]
theorem owns_r (c : Dev nD) (X) : (owns (c : Thread nD τ) rM fullShare X : sProp 𝕄) = held c rM X := owns_held c rM X X fun f => by rw [View.read_whole]
theorem owns_i (c : Dev nD) (X) : (owns (c : Thread nD τ) iM fullShare X : sProp 𝕄) = held c iM X := owns_held c iM X X fun f => by rw [View.read_whole]
theorem owns_w (c : Dev nD) (X) : (owns (c : Thread nD τ) wM fullShare X : sProp 𝕄) = held c wM X := owns_held c wM X X fun f => by rw [View.read_whole]
theorem owns_o (c : Dev nD) (X) : (owns (c : Thread nD τ) oM fullShare X : sProp 𝕄) = held c oM X := owns_held c oM X X fun f => by rw [View.read_whole]

theorem before_0 (c : Dev nD) (d) : (dats m 0 c).before (0 : Fin 5) t0_0 d = xIn m c := by unfold Dat.before; rw [if_pos (fetch0_0 t0_0)]; rfl
theorem before_1 (c : Dev nD) (d) : (dats m 0 c).before (1 : Fin 5) t0_0 d = rIn m c := by unfold Dat.before; rw [if_pos (fetch0_1 t0_0)]; rfl
theorem before_2 (c : Dev nD) (d) : (dats m 0 c).before (2 : Fin 5) t0_0 d = iIn m c := by unfold Dat.before; rw [if_pos (fetch0_2 t0_0)]; rfl
theorem before_3 (c : Dev nD) (d) : (dats m 0 c).before (3 : Fin 5) t0_0 d = wIn m c := by unfold Dat.before; rw [if_pos (fetch0_3 t0_0)]; rfl

/-- What the pipeline hands the body, and what it takes back. -/
def bodyPre (c : Dev nD) : sProp 𝕄 :=
  iprop(Φ₀ m c ∗ (dats m 0 c).owesAt () t0_0.castSucc
    ∗ (∃ d, owns (c : Thread nD τ) xM fullShare ((dats m 0 c).before (0 : Fin 5) t0_0 d)) ∗ (∃ d, owns (c : Thread nD τ) rM fullShare ((dats m 0 c).before (1 : Fin 5) t0_0 d))
    ∗ (∃ d, owns (c : Thread nD τ) iM fullShare ((dats m 0 c).before (2 : Fin 5) t0_0 d)) ∗ (∃ d, owns (c : Thread nD τ) wM fullShare ((dats m 0 c).before (3 : Fin 5) t0_0 d))
    ∗ (∃ d, owns (c : Thread nD τ) oM fullShare ((dats m 0 c).before (4 : Fin 5) t0_0 d)))
def bodyPost (c : Dev nD) : sProp 𝕄 :=
  iprop(Φ₁ (F := F) c ∗ (dats m 0 c).owesAt () t0_0.succ
    ∗ owns (c : Thread nD τ) xM fullShare (xIn m c) ∗ owns (c : Thread nD τ) rM fullShare (rIn m c) ∗ owns (c : Thread nD τ) iM fullShare (iIn m c)
    ∗ owns (c : Thread nD τ) wM fullShare (wIn m c) ∗ owns (c : Thread nD τ) oM fullShare (outAt m c))

/-- The body from the pipeline's state to the pipeline's state. -/
theorem body_run (c : Dev nD) : bodyPre m c ⊢ wp frame (wpE (defs₀ (F := F)) 𝒱₀ c none) Set.univ
    (cc0_body xM (Memref.isWhole_whole _) rM (Memref.isWhole_whole _) iM (Memref.isWhole_whole _) wM (Memref.isWhole_whole _) oM (Memref.isWhole_whole _)
      gM (Memref.isWhole_whole _) eM (Memref.isWhole_whole _) sM (Memref.isWhole_whole _) vM (Memref.isWhole_whole _) cc0_scratch4 cc0_scratch5) (fun _ => bodyPost m c) := by
  unfold bodyPre Φ₀ start Dat.owesAt Pipeline.owesWithin
  rw [show (dats m 0 c).owed t0_0.castSucc = O₀ c from rfl]
  simp only [before_0, before_1, before_2, before_3, owns_x, owns_r, owns_i, owns_w, owns_o]
  iintro ⟨⟨⟨⟨%K, Hg⟩, Hdue, Hlev⟩, Hscr⟩, ⟨%W, -, HO⟩, ⟨%d0, HX⟩, ⟨%d1, HR⟩, ⟨%d2, HI⟩, ⟨%d3, HW⟩, ⟨%d4, HOut⟩⟩
  iapply (run_body m K c fun _ => bodyPost m c)
  unfold ghost
  icases Hg with ⟨HRec, Hpl, Htok⟩
  isplitr []
  · isplitl [HRec]; · iexact HRec
    isplitl [Hpl]; · iexact Hpl
    isplitl [Htok]; · iexact Htok
    isplitl [Hdue]; · iexact Hdue
    isplitl [Hlev]; · iexact Hlev
    isplitl [Hscr]; · iexact Hscr
    isplitl [HO]; · unfold bill; iexists W; iexact HO
    isplitl [HX HR HI HW]
    · unfold inputs
      isplitl [HX]; · iexact HX
      isplitl [HR]; · iexact HR
      isplitl [HI]; · iexact HI
      iexact HW
    iexists _; iexact HOut
  · unfold bodyPost inputs bill Dat.owesAt Pipeline.owesWithin
    rw [owns_x, owns_r, owns_i, owns_w, owns_o]
    rw [show (dats m 0 c).owed t0_0.succ = 0 from rfl]
    iintro ⟨HΦ, ⟨%W', HO⟩, ⟨HX, HR, HI, HW⟩, HOut⟩
    isplitl [HΦ]; · iexact HΦ
    isplitl [HO]
    · iexists W'
      isplitr; · (ipureintro; exact fun _ _ => Or.inl trivial)
      iexact HO
    isplitl [HX]; · iexact HX
    isplitl [HR]; · iexact HR
    isplitl [HI]; · iexact HI
    isplitl [HW]; · iexact HW
    iexact HOut

/-- The library's obligation on the body. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from fun Φ => bigSep_W0 Φ,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from fun Φ => bigSep_W0 Φ]
  exact body_run m c

end Cert.KernelIdeal.Moe

end
-- ==== Proof.Launch.lean ====
/-
The launch: the protocol's ghost state is minted and dealt, each device's cells get their invariants, and the four bodies run
to the end.
-/
module

public import proofs.«01_k».proof.Proof.Region
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem share_eq (c : Dev nD) (w : Fin cfg0.W) : (dats m 0 c).share w = fullShare := by unfold Dat.share; split <;> rfl

/-! ## The launch's ghost element -/

/-- The cells of the protocol: every device's barrier, send and receive cells. -/
def moeCells : Finset (GSem nD τ sig) := Finset.univ.map ⟨kcell, kcell_injective⟩

/-- Device `cj.1`'s duties, numbered: its barrier's three, then one of each send and receive cell. -/
def tokOf (cj : Dev nD × Fin 15) : GSem nD τ sig × ℕ × Fin 3 :=
  if h : cj.2.val < 3 then (barCell cj.1, 0, ⟨cj.2.val, h⟩) else (kcell (cj.1, some ⟨cj.2.val - 3, by omega⟩), 0, 0)
/-- The device a duty's cell is on, -/
theorem tokOf_dev (cj : Dev nD × Fin 15) : (tokOf cj).1.1.1 = cj.1 := by unfold tokOf; split <;> rfl
/-- and its number read back. -/
theorem tokOf_num (cj : Dev nD × Fin 15) : (match (tokOf cj).1.2 with | .reg _ => (tokOf cj).2.2.val | .dma q => q.val - 2) = cj.2.val := by
  unfold tokOf
  by_cases h : cj.2.val < 3
  · simp only [dif_pos h]
  · simp only [dif_neg h]
    show 5 + (cj.2.val - 3) - 2 = cj.2.val
    omega
theorem tokOf_injective : Function.Injective tokOf := by
  intro a b h
  have h1 : a.1 = b.1 := by rw [← tokOf_dev a, ← tokOf_dev b, h]
  have h2 : a.2.val = b.2.val := by rw [← tokOf_num a, ← tokOf_num b, h]
  exact Prod.ext h1 (Fin.ext h2)
def moeToks : Finset (GSem nD τ sig × ℕ × Fin 3) := Finset.univ.map ⟨tokOf, tokOf_injective⟩

def u₀ : UU := (initOf (Pipeline.cells cfgs cellOf_inj) (Pipeline.launchToks cfgs cellOf_inj), initOf moeCells moeToks)

/-- The duty tokens of device `c`'s own cells. -/
def toks (c : Dev nD) : sProp 𝕄 :=
  iprop((bigSep Finset.univ fun k : Fin 3 => dutyTok ER (barCell c) 0 k)
    ∗ (bigSep Finset.univ fun s : Fin 6 => dutyTok ER (sendCell s c) 0 0)
    ∗ bigSep Finset.univ fun s : Fin 6 => dutyTok ER (recvCell s c) 0 0)

/-- What a device is dealt: its cells' states and positions, and their duties' tokens; -/
def G (c : Dev nD) : sProp 𝕄 :=
  iprop((bigSep Finset.univ fun k : Option (Fin 12) => roundState ER (Rd m) (kcell (c, k)) 0)
    ∗ (bigSep Finset.univ fun k : Option (Fin 12) => iprop(atPos ER (kcell (c, k)) 0 ∅ 0 ∗ reached ER (kcell (c, k)) 0)) ∗ toks c)
/-- what the devices make of it together. -/
def G' (c : Dev nD) : sProp 𝕄 := iprop(∃ K, ghost m K c)

omit [FloatOps F] in
theorem bigSep_fifteen (Φ : Fin 15 → sProp 𝕄) : bigSep Finset.univ Φ
    = iprop((bigSep Finset.univ fun k : Fin 3 => Φ ⟨k.val, by omega⟩) ∗ (bigSep Finset.univ fun s : Fin 6 => Φ ⟨3 + s.val, by omega⟩)
      ∗ bigSep Finset.univ fun s : Fin 6 => Φ ⟨9 + s.val, by omega⟩) := by
  rw [bigSep_univ_eq_bigSepL [0, 1, 2, 3, 4, 5, 6, 7, 8, 9, 10, 11, 12, 13, 14] (by decide) (by decide), bigSep_fin3, bigSep_fin6, bigSep_fin6]
  simp only [bigSepL_cons_cons, bigSepL_singleton]
  refine BI.Entails.antisymm
    (show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
      ⊢ iprop((Φ 0 ∗ Φ 1 ∗ Φ 2) ∗ (Φ 3 ∗ Φ 4 ∗ Φ 5 ∗ Φ 6 ∗ Φ 7 ∗ Φ 8) ∗ Φ 9 ∗ Φ 10 ∗ Φ 11 ∗ Φ 12 ∗ Φ 13 ∗ Φ 14) from ?_)
    (show iprop((Φ 0 ∗ Φ 1 ∗ Φ 2) ∗ (Φ 3 ∗ Φ 4 ∗ Φ 5 ∗ Φ 6 ∗ Φ 7 ∗ Φ 8) ∗ Φ 9 ∗ Φ 10 ∗ Φ 11 ∗ Φ 12 ∗ Φ 13 ∗ Φ 14)
      ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) from ?_)
  · iintro ⟨H0, H1, H2, H3, H4, H5, H6, H7, H8, H⟩
    iframe
  · iintro ⟨⟨H0, H1, H2⟩, ⟨H3, H4, H5, H6, H7, H8⟩, H⟩
    iframe

omit [FloatOps F] in
/-- The fifteen duties' tokens, sorted by the cells they are of. -/
theorem toks_eq (c : Dev nD) : (bigSep Finset.univ fun j : Fin 15 => (dutyTok ER (tokOf (c, j)).1 (tokOf (c, j)).2.1 (tokOf (c, j)).2.2 : sProp 𝕄)) = toks c := by
  have hb : ∀ k : Fin 3, tokOf (c, ⟨k.val, by omega⟩) = (barCell c, 0, k) := fun k => by unfold tokOf; exact dif_pos k.isLt
  have hs : ∀ s : Fin 6, tokOf (c, ⟨3 + s.val, by omega⟩) = (sendCell s c, 0, 0) := fun s => by
    unfold tokOf; refine (dif_neg (by simp)).trans ?_
    exact congrArg (fun j => (kcell (c, some j), 0, 0)) (Fin.ext (by show 3 + s.val - 3 = s.val; omega))
  have hv : ∀ s : Fin 6, tokOf (c, ⟨9 + s.val, by omega⟩) = (recvCell s c, 0, 0) := fun s => by
    unfold tokOf; refine (dif_neg (by show ¬ 9 + s.val < 3; omega)).trans ?_
    exact congrArg (fun j => (kcell (c, some j), 0, 0)) (Fin.ext (by show 9 + s.val - 3 = 6 + s.val; omega))
  rw [bigSep_fifteen]
  unfold toks
  simp only [hb, hs, hv]

theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun k : Option (Fin 12) => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => toks_eq c
  iintro HX
  imod (Rounds.fund ER (Rd m) moeCells moeToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

omit [FloatOps F] in
/-- The kernel's own twelve counters, and the barrier's. -/
theorem ownSems0_eq (c : Dev nD) : (Pipeline.ownSems0 (Ix := Unit) (Name := ℕ) (U := UU) (Lvl := ℕ) (Val := Elt F) (τ := τ) osem c : sProp 𝕄)
    = bigSep Finset.univ fun j : Fin 12 => semVal (kcell (c, some j)) 0 := by
  rw [Pipeline.ownSems0_eq_of_list c osem [0, 1, 2, 3, 4, 5, 6, 7, 8, 9, 10, 11] (by decide) (by decide),
    bigSep_univ_eq_bigSepL [0, 1, 2, 3, 4, 5, 6, 7, 8, 9, 10, 11] (by decide) (by decide)]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_option (Φ : Option (Fin 12) → sProp 𝕄) : bigSep Finset.univ Φ = iprop(Φ none ∗ bigSep Finset.univ fun j : Fin 12 => Φ (some j)) := by
  rw [bigSep_univ_eq_bigSepL [none, some 0, some 1, some 2, some 3, some 4, some 5, some 6, some 7, some 8, some 9, some 10, some 11] (by decide) (by decide) Φ,
    bigSep_univ_eq_bigSepL [0, 1, 2, 3, 4, 5, 6, 7, 8, 9, 10, 11] (by decide) (by decide)]
  simp only [bigSepL_cons_cons, bigSepL_singleton]
  rfl

omit [FloatOps F] in
theorem sems0_eq (c : Dev nD) :
    (bigSep Finset.univ fun k : Option (Fin 12) => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_option]

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option (Fin 12) => semVal (kcell (c, k)) 0) ∗ bigSep Finset.univ fun k : Option (Fin 12) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Summed over the devices, a family indexed by peers may be read at the other end of each peer relation. -/
theorem around_eq {J : Type} [Fintype J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [bigSep_univ_comm, bigSep_univ_comm (fun (c : Dev nD) (j : J) => Φ (e j c) j)]
  exact bigSep_congr fun j _ => bigSep_univ_equiv (e j) fun c => Φ c j

/-- The tokens go to who pays: a barrier's `k`-th to the device of which it is the `k`-th payee, a receive cell's to its sender. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around_eq (fun k : Fin 3 => (hop k).symm) (fun (c : Dev nD) (k : Fin 3) => (dutyTok ER (barCell c) 0 k : sProp 𝕄)),
    around_eq (fun s : Fin 6 => hop (grp s)) (fun (c : Dev nD) (s : Fin 6) => (dutyTok ER (recvCell s c) 0 0 : sProp 𝕄))]
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names are chosen at once, and each device keeps its positions and the tokens it pays with. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 12) => iprop(∃ κ : ℕ, cellInv ER (Rd m) κ (kcell ck))),
    bigSep_congr (s := Finset.univ) (fun (c : Dev nD) _ => bigSep_sep' Finset.univ (fun k : Option (Fin 12) => (atPos ER (kcell (c, k)) 0 ∅ 0 : sProp 𝕄)) (fun k => reached ER (kcell (c, k)) 0)),
    bigSep_sep', ← bigSep_univ_prod (fun ck : Dev nD × Option (Fin 12) => (reached ER (kcell ck) 0 : sProp 𝕄))]
  iintro ⟨HI, ⟨Hat, #HR⟩, Htok⟩
  ihave HK := (BI.bigSep_exists_pi Finset.univ (fun (ck : Dev nD × Option (Fin 12)) (κ : ℕ) => (cellInv ER (Rd m) κ (kcell ck) : sProp 𝕄))) $$ HI
  icases HK with ⟨%K, #HI⟩
  ihave Htk := (toks_around (F := F)) $$ Htok
  iapply (bigSep_with (R := records m K) (Φ := fun c => iprop(places c ∗ payToks c)) fun c _ =>
    show iprop(records m K ∗ places c ∗ payToks c) ⊢ G' m c from by
      unfold G' ghost
      iintro H
      iexists K
      iexact H)
  isplitr
  · unfold records; isplitl; · iexact HI
    iexact HR
  · iapply (Entails.of_eq (bigSep_sep' Finset.univ (fun c : Dev nD => (places c : sProp 𝕄)) payToks).symm)
    isplitl [Hat]; · unfold places; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the cells are owed -/

theorem bar_eq_iff {a b : Dev nD} : Iff (barCell a = barCell b) (a = b) :=
  ⟨fun h => congrArg Prod.fst (kcell_injective h), fun h => h ▸ rfl⟩
theorem recv_eq_iff {s t : Fin 6} {a b : Dev nD} : Iff (recvCell s a = recvCell t b) (s = t ∧ a = b) := by
  constructor
  · intro h
    have h' := kcell_injective h
    have h2 : (vIx s) = vIx t := Option.some.inj (congrArg Prod.snd h')
    have h3 : 6 + s.val = 6 + t.val := congrArg Fin.val h2
    exact ⟨Fin.ext (by omega), congrArg Prod.fst h'⟩
  · rintro ⟨rfl, rfl⟩; rfl
theorem recv_ne_bar (s : Fin 6) (a b : Dev nD) : recvCell s a ≠ barCell b := fun h => by
  have h2 := congrArg Prod.snd (kcell_injective h)
  cases h2

theorem tgt_eq_iff (k : Fin 3) (d c : Dev nD) : Iff (tgt k d = c) (d = src k c) :=
  ⟨fun h => by rw [← h, src_tgt], fun h => by rw [h, tgt_src]⟩
theorem src_eq_iff (k : Fin 3) (d c : Dev nD) : Iff (src k d = c) (d = tgt k c) :=
  ⟨fun h => by rw [← h, tgt_src], fun h => by rw [h, src_tgt]⟩

/-- One signal's tally at a barrier cell, -/
theorem sig_at (d c : Dev nD) (k : Fin 3) : (tallyAt (barCell (src k d)) () 1 : CellTallies nD τ sig Unit) (barCell c) () = if d = tgt k c then 1 else 0 := by
  rw [tallyAt_apply]
  by_cases h : d = tgt k c
  · rw [if_pos h, if_pos ⟨bar_eq_iff.mpr ((src_eq_iff k d c).mpr h).symm, rfl⟩]
  · rw [if_neg h, if_neg fun h' => h ((src_eq_iff k d c).mp (bar_eq_iff.mp h'.1).symm)]
/-- one copy's at a receive cell, -/
theorem slot_at (d c : Dev nD) (s t : Fin 6) : owesSlot d t (recvCell s c) () = if t = s ∧ d = src (grp s) c then N else 0 := by
  show (tallyAt (recvCell t (tgt (grp t) d)) () N : CellTallies nD τ sig Unit) (recvCell s c) () = _
  rw [tallyAt_apply]
  by_cases h : t = s ∧ d = src (grp s) c
  · obtain ⟨rfl, rfl⟩ := h
    rw [if_pos (show t = t ∧ src (grp t) c = src (grp t) c from ⟨rfl, rfl⟩), if_pos ⟨recv_eq_iff.mpr ⟨rfl, (tgt_src (grp t) c).symm⟩, rfl⟩]
  · rw [if_neg h, if_neg]
    rintro ⟨h', -⟩
    obtain ⟨rfl, h''⟩ := recv_eq_iff.mp h'
    exact h ⟨rfl, (tgt_eq_iff _ _ _).mp h''.symm⟩
/-- the copies' at a barrier cell, and a signal's at a receive cell. -/
theorem sends_at_bar (d c : Dev nD) : ∀ n, sendsLeft d n (barCell c) () = 0
  | 0 => rfl
  | n + 1 => by
    unfold sendsLeft
    rw [Pi.add_apply, Finsupp.add_apply, sends_at_bar d c n, Nat.zero_add]
    show (tallyAt _ () N : CellTallies nD τ sig Unit) (barCell c) () = 0
    rw [tallyAt_ne_cell fun h => recv_ne_bar _ _ _ h.symm]; rfl
theorem sig_at_recv (d c : Dev nD) (s : Fin 6) : (tallyAt (barCell d) () 1 : CellTallies nD τ sig Unit) (recvCell s c) () = 0 := by
  rw [tallyAt_ne_cell fun h => recv_ne_bar _ _ _ h]; rfl

theorem owed_bar (d c : Dev nD) : O₀ d (barCell c) () = (if d = tgt 0 c then 1 else 0) + (if d = tgt 2 c then 1 else 0) + (if d = tgt 1 c then 1 else 0) := by
  unfold O₀ O₁ O₂
  rw [Pi.add_apply, Finsupp.add_apply, Pi.add_apply, Finsupp.add_apply, Pi.add_apply, Finsupp.add_apply, sends_at_bar, sig_at, sig_at, sig_at, Nat.zero_add]
theorem sends_at_recv (d c : Dev nD) (s : Fin 6) (n : ℕ) :
    sendsLeft d (n + 1) (recvCell s c) () = sendsLeft d n (recvCell s c) () + if (⟨5 - n, by omega⟩ : Fin 6) = s ∧ d = src (grp s) c then N else 0 := by
  show (sendsLeft d n + owesSlot d ⟨5 - n, by omega⟩) (recvCell s c) () = _
  rw [Pi.add_apply, Finsupp.add_apply]
  exact congrArg _ (slot_at d c s _)
theorem owed_recv (d c : Dev nD) (s : Fin 6) : O₀ d (recvCell s c) () = if d = src (grp s) c then N else 0 := by
  unfold O₀ O₁ O₂
  rw [Pi.add_apply, Finsupp.add_apply, Pi.add_apply, Finsupp.add_apply, Pi.add_apply, Finsupp.add_apply, sig_at_recv, sig_at_recv, sig_at_recv]
  rw [sends_at_recv, sends_at_recv, sends_at_recv, sends_at_recv, sends_at_recv, sends_at_recv, show sendsLeft d 0 (recvCell s c) () = 0 from rfl]
  generalize N = n
  by_cases h : d = src (grp s) c
  · have hd : ∀ t : Fin 6, (t = s ∧ d = src (grp s) c) = (t = s) := fun t => propext ⟨fun h' => h'.1, fun h' => ⟨h', h⟩⟩
    simp only [hd, if_pos h]
    clear h hd
    revert s; intro s
    fin_cases s <;> simp
  · rw [if_neg fun h' => h h'.2, if_neg fun h' => h h'.2, if_neg fun h' => h h'.2, if_neg fun h' => h h'.2, if_neg fun h' => h h'.2, if_neg fun h' => h h'.2, if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (tgt 0 c) fun _ => 1, Finset.sum_ite_eq' Finset.univ (tgt 2 c) fun _ => 1, Finset.sum_ite_eq' Finset.univ (tgt 1 c) fun _ => 1,
    if_pos (Finset.mem_univ _), if_pos (Finset.mem_univ _), if_pos (Finset.mem_univ _)]
theorem launch_recv (c : Dev nD) (s : Fin 6) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (src (grp s) c) fun _ => N,
    if_pos (Finset.mem_univ _)]

/-- The receive cells' numbers among a device's semaphores. -/
def vSems : Finset (SemLoc sig) := Finset.univ.map ⟨fun s : Fin 6 => osem (vIx s), fun s t h => (recv_eq_iff.mp (show recvCell s 0 = recvCell t 0 from congrArg _ h)).1⟩

omit [FloatOps F] in
theorem creds (c : Dev nD) : (Pipeline.launchCred O₀ c : sProp 𝕄) ⊢ dues c := by
  unfold Pipeline.launchCred dues
  rw [bigSep_univ_at _ (SemLoc.reg barS), launch_bar]
  refine sep_mono_right ?_
  rw [bigSep_congr (s := Finset.univ) fun (s : Fin 6) _ => congrArg (fun T => (cred T : sProp 𝕄)) (launch_recv c s).symm]
  have hv : vSems ⊆ Finset.univ.erase (SemLoc.reg barS) := fun x hx => by
    obtain ⟨s, -, hs⟩ := Finset.mem_map.mp hx
    refine Finset.mem_erase.mpr ⟨fun h => ?_, Finset.mem_univ _⟩
    rw [h] at hs
    cases hs
  refine BI.Entails.trans (bigSep_subset hv) ?_
  unfold vSems
  rw [bigSep_map]
  exact BI.Entails.refl _

/-! ## Entering and leaving the region -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems0_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 16384 in
/-- From any memory with zero counters, every weakly fair execution of the four kernels terminates, and every final state has each
    device's arrays as computed and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after it -/

/-- The inputs' arrays hold what they held, -/
theorem finalA_0 (c : Dev nD) : finalA m c (0 : Fin 5) = m (win0_0.arr.view.loc (c : Thread nD τ)) := (dats m 0 c).arrAt_in (0 : Fin 5) rfl _
theorem finalA_1 (c : Dev nD) : finalA m c (1 : Fin 5) = m (win0_1.arr.view.loc (c : Thread nD τ)) := (dats m 0 c).arrAt_in (1 : Fin 5) rfl _
theorem finalA_2 (c : Dev nD) : finalA m c (2 : Fin 5) = m (win0_2.arr.view.loc (c : Thread nD τ)) := (dats m 0 c).arrAt_in (2 : Fin 5) rfl _
theorem finalA_3 (c : Dev nD) : finalA m c (3 : Fin 5) = m (win0_3.arr.view.loc (c : Thread nD τ)) := (dats m 0 c).arrAt_in (3 : Fin 5) rfl _

theorem finalA_4_read (c : Dev nD) : (win0_4.blk t0_0).view.read (Elt F) (finalA m c (4 : Fin 5)) = outAt m c := by
  unfold finalA
  rw [show cfg0.N = (t0_0 : Fin cfg0.N).val + 1 from rfl, (dats m 0 c).arrAt_succ (4 : Fin 5) t0_0]
  rw [show (cfg0.win (4 : Fin 5)).flush t0_0 = true from flush0_4 t0_0, if_pos rfl]
  exact View.read_write_univ _ _
/-- and the result's array the block the body computed. -/
theorem finalA_4 (c : Dev nD) : finalA m c (4 : Fin 5) = outAt m c := by
  funext i
  have he : (win0_4.blk t0_0).view.emb i = i := by
    funext a
    apply Fin.ext
    show 0 * (S512x1024.size a) + 1 * (i a).val = (i a).val
    rw [Nat.zero_mul, Nat.zero_add, Nat.one_mul]
  exact (congrArg (finalA m c (4 : Fin 5)) he).symm.trans (congrFun (finalA_4_read m c) i)

end Cert.KernelIdeal.Moe

end
-- ==== Proof.Frames.lean ====
/-
The frames: the kernel, read bit-exactly and over the reals, and the reference terminate with their arguments and every
semaphore counter as they were.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.Proof

open Idealize.ShloMosaic Idealize.SL.Sem

variable {F : FTy → Type} [FloatOps F]

/-- The kernel at any floats: it terminates, its arguments and every counter as they were. -/
theorem frame_any (m) (ρ) : θ_run (Cert.KernelIdeal.defs (F := F)) (onTc (τ := Cert.KernelIdeal.τ) (Cert.KernelIdeal.main (F := F))) ⟨m, fun _ => 0, ρ⟩
    (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c (0 : Fin 5)).trans (Cert.KernelIdeal.Moe.finalA_0 m c), (h.1 c (1 : Fin 5)).trans (Cert.KernelIdeal.Moe.finalA_1 m c),
      (h.1 c (2 : Fin 5)).trans (Cert.KernelIdeal.Moe.finalA_2 m c), (h.1 c (3 : Fin 5)).trans (Cert.KernelIdeal.Moe.finalA_3 m c)⟩, h.2⟩)
    (Cert.KernelIdeal.Moe.run_main (F := F) m ρ)

instance : Cert.Kernel.Facts := Cert.Kernel.Gen.facts

/-- The two printings of the kernel have one table of bodies, -/
theorem bodies_same : Cert.Kernel.defs₀ (F := F) = Cert.KernelIdeal.defs₀ (F := F) := by
  funext κ l a
  cases κ
  · match l with
    | (0 : Fin 1) => obtain ⟨t, s⟩ := a; rfl
  · rfl
  · rfl
/-- hence one program. -/
theorem defs_same : Cert.Kernel.defs (F := F) = Cert.KernelIdeal.defs (F := F) := congrArg (fun d => Pipeline.defs (Cert.KernelIdeal.pcfgs (F := F)) d) bodies_same

/-- The kernel, bit-exactly; -/
theorem frame_kernel : Cert.quiescent_Kernel := fun m ρ _ => by
  have h := frame_any (F := Bits) m ρ
  rw [← defs_same] at h
  exact h
/-- over the reals; -/
theorem frame_ideal : Cert.quiescent_KernelIdeal := fun m ρ _ => frame_any (F := Ideal) m ρ
/-- the reference over the reals. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Router.lean ====
/-
The problem's mathematics over the extended reals, for a token and a column of the result: the router's score of an
expert, the softmax of the scores, the two gates of a token's two choices, and their sum of products with the two
experts' outputs. A finite token and a finite router matrix make every probability a positive real; then a sum over all
experts, each weighted by the gates of the choices that name it, is the sum over the two choices.
-/
module

public import Idealize.ShloMosaic.PureOps
public import Idealize.ShloMosaic.Lib.Pointwise

@[expose] public section

noncomputable section

namespace Cert.Moe

open Idealize.ShloMosaic

/-! ## What is computed -/

section Spec

variable (x : Vec Ideal ⟨2, ![2048, 512]⟩ .f32) (r : Vec Ideal ⟨2, ![512, 32]⟩ .f32) (w : Vec Ideal ⟨3, ![32, 512, 1024]⟩ .f32)

/-- The router's score of expert `e` for token `t`; -/
def score (t : Fin 2048) (e : Fin 32) : EReal := ∑ k : Fin 512, x (ix2 t k) * r (ix2 k e)
/-- the token's largest score; -/
def top (t : Fin 2048) : EReal := Finset.univ.fold max (Ideal.ofBits .f32 0xFF800000#32) (score x r t)
/-- the exponential of a score less the largest; -/
def expo (t : Fin 2048) (e : Fin 32) : EReal := Ideal.exp (score x r t e - top x r t)
/-- and the softmax: the token's probability of the expert. -/
def prob (t : Fin 2048) (e : Fin 32) : EReal := Ideal.div (expo x r t e) (∑ e' : Fin 32, expo x r t e')

/-- Expert `e`'s output for token `t`, at column `n`. -/
def output (t : Fin 2048) (n : Fin 1024) (e : Fin 32) : EReal := ∑ k : Fin 512, x (ix2 t k) * w (ix3 e k n)

/-- A token's result when its choices are `a` and `b`: the two outputs, each by its choice's share of the two
    probabilities. -/
def moe (t : Fin 2048) (n : Fin 1024) (a b : Fin 32) : EReal :=
  Ideal.div (prob x r t a) (prob x r t a + prob x r t b) * output x w t n a
    + Ideal.div (prob x r t b) (prob x r t a + prob x r t b) * output x w t n b

/-- The gate of expert `e`: the probabilities of the choices that are `e`, over the two choices' sum. -/
def gate (t : Fin 2048) (a b e : Fin 32) : EReal :=
  Ideal.div ((if a = e then prob x r t a else 0) + (if b = e then prob x r t b else 0)) (prob x r t a + prob x r t b)

end Spec

/-! ## Probabilities are positive reals -/

/-- Being a real number. -/
def IsReal (a : EReal) : Prop := a ≠ ⊥ ∧ a ≠ ⊤

theorem real_coe {a : EReal} (h : IsReal a) : ∃ b : ℝ, a = b := ⟨a.toReal, (EReal.coe_toReal h.2 h.1).symm⟩
theorem coe_real (b : ℝ) : IsReal (b : EReal) := ⟨EReal.coe_ne_bot b, EReal.coe_ne_top b⟩

theorem real_add {a b : EReal} (ha : IsReal a) (hb : IsReal b) : IsReal (a + b) := by
  obtain ⟨a, rfl⟩ := real_coe ha; obtain ⟨b, rfl⟩ := real_coe hb
  rw [← EReal.coe_add]; exact coe_real _
theorem real_sub {a b : EReal} (ha : IsReal a) (hb : IsReal b) : IsReal (a - b) := by
  obtain ⟨a, rfl⟩ := real_coe ha; obtain ⟨b, rfl⟩ := real_coe hb
  rw [← EReal.coe_sub]; exact coe_real _
theorem real_mul {a b : EReal} (ha : IsReal a) (hb : IsReal b) : IsReal (a * b) := by
  obtain ⟨a, rfl⟩ := real_coe ha; obtain ⟨b, rfl⟩ := real_coe hb
  rw [← EReal.coe_mul]; exact coe_real _
theorem real_sum {ι : Type} (s : Finset ι) (f : ι → EReal) (h : ∀ i, IsReal (f i)) : IsReal (∑ i ∈ s, f i) :=
  Finset.sum_induction f IsReal (fun _ _ => real_add) (coe_real 0) fun i _ => h i

/-- A sum of positive reals, over something, is one. -/
theorem pos_sum {ι : Type} [Fintype ι] [Nonempty ι] (f : ι → EReal) (h : ∀ i, ∃ a : ℝ, 0 < a ∧ f i = a) : ∃ a : ℝ, 0 < a ∧ ∑ i, f i = a := by
  have hr := real_sum Finset.univ f fun i => by obtain ⟨a, -, e⟩ := h i; rw [e]; exact coe_real a
  obtain ⟨b, hb⟩ := real_coe hr
  refine ⟨b, ?_, hb⟩
  obtain ⟨i⟩ := ‹Nonempty ι›
  obtain ⟨a, ha, e⟩ := h i
  have hle : f i ≤ ∑ i, f i := Finset.single_le_sum (fun j _ => by obtain ⟨c, hc, e⟩ := h j; rw [e]; exact EReal.coe_nonneg.2 hc.le) (Finset.mem_univ i)
  rw [hb, e, EReal.coe_le_coe_iff] at hle
  exact ha.trans_le hle

section Positive

variable (x : Vec Ideal ⟨2, ![2048, 512]⟩ .f32) (r : Vec Ideal ⟨2, ![512, 32]⟩ .f32)
variable (hx : ∀ t k, IsReal (x (ix2 t k))) (hr : ∀ k e, IsReal (r (ix2 k e)))
include hx hr

theorem score_real (t : Fin 2048) (e : Fin 32) : IsReal (score x r t e) :=
  real_sum _ _ fun k => real_mul (hx t k) (hr k e)

theorem top_real (t : Fin 2048) : IsReal (top x r t) := by
  have hb : Ideal.ofBits .f32 0xFF800000#32 = ⊥ := by simp [Ideal.ofBits, Ideal.ieee]
  unfold top; rw [hb]
  constructor
  · rw [← bot_lt_iff_ne_bot, Finset.lt_fold_max]
    exact .inr ⟨0, Finset.mem_univ _, bot_lt_iff_ne_bot.2 (score_real x r hx hr t 0).1⟩
  · rw [← lt_top_iff_ne_top, Finset.fold_max_lt]
    exact ⟨bot_lt_top, fun e _ => lt_top_iff_ne_top.2 (score_real x r hx hr t e).2⟩

theorem expo_pos (t : Fin 2048) (e : Fin 32) : ∃ a : ℝ, 0 < a ∧ expo x r t e = a := by
  obtain ⟨a, ha⟩ := real_coe (real_sub (score_real x r hx hr t e) (top_real x r hx hr t))
  refine ⟨Real.exp a, Real.exp_pos a, ?_⟩
  unfold expo; rw [ha, Ideal.exp_coe]

/-- With finite tokens and a finite router matrix every probability is a positive real. -/
theorem prob_pos (t : Fin 2048) (e : Fin 32) : ∃ a : ℝ, 0 < a ∧ prob x r t e = a := by
  obtain ⟨a, ha, ea⟩ := expo_pos x r hx hr t e
  obtain ⟨b, hb, eb⟩ := pos_sum (expo x r t) (expo_pos x r hx hr t)
  refine ⟨a * (1 / b), mul_pos ha (one_div_pos.2 hb), ?_⟩
  unfold prob; rw [ea, eb, Ideal.div_coe hb.ne', EReal.coe_mul]

end Positive

/-! ## All experts, or the two chosen -/

/-- One choice's gate, summed with the outputs over all experts: only the chosen expert's term is left. -/
theorem pick_sum (y : Fin 32 → EReal) (a : Fin 32) (p : EReal) :
    (∑ e : Fin 32, y e * (if a = e then p else 0)) = y a * p := by
  rw [Finset.sum_eq_single a]
  · rw [if_pos rfl]
  · intro e _ h; rw [if_neg fun h' => h h'.symm, mul_zero]
  · intro h; exact absurd (Finset.mem_univ a) h

/-- The sum over all experts of their outputs by their gates is the sum over the two choices, when the two choices'
    probabilities are positive reals. -/
theorem mix (y : Fin 32 → EReal) (a b : Fin 32) (p q : ℝ) (hp : 0 < p) (hq : 0 < q) :
    (∑ e : Fin 32, y e * Ideal.div ((if a = e then (p : EReal) else 0) + (if b = e then (q : EReal) else 0)) ((p : EReal) + q))
      = Ideal.div p ((p : EReal) + q) * y a + Ideal.div q ((p : EReal) + q) * y b := by
  have hs : (p + q : ℝ) ≠ 0 := (add_pos hp hq).ne'
  have hu : (0 : EReal) ≤ ((1 / (p + q) : ℝ) : EReal) := EReal.coe_nonneg.2 (one_div_pos.2 (add_pos hp hq)).le
  have hp' : (0 : EReal) ≤ (p : EReal) := EReal.coe_nonneg.2 hp.le
  have hq' : (0 : EReal) ≤ (q : EReal) := EReal.coe_nonneg.2 hq.le
  rw [← EReal.coe_add]
  simp only [Ideal.div_coe hs]
  generalize ((1 / (p + q) : ℝ) : EReal) = u at hu
  have step (e : Fin 32) : y e * (((if a = e then (p : EReal) else 0) + (if b = e then (q : EReal) else 0)) * u)
      = y e * (if a = e then (p : EReal) * u else 0) + y e * (if b = e then (q : EReal) * u else 0) := by
    have h1 : (0 : EReal) ≤ if a = e then (p : EReal) else 0 := by split; exacts [hp', le_rfl]
    have h2 : (0 : EReal) ≤ if b = e then (q : EReal) else 0 := by split; exacts [hq', le_rfl]
    have h3 : (0 : EReal) ≤ if a = e then (p : EReal) * u else 0 := by split; exacts [mul_nonneg hp' hu, le_rfl]
    have h4 : (0 : EReal) ≤ if b = e then (q : EReal) * u else 0 := by split; exacts [mul_nonneg hq' hu, le_rfl]
    rw [EReal.right_distrib_of_nonneg h1 h2, ite_mul, ite_mul, zero_mul, EReal.left_distrib_of_nonneg h3 h4]
  simp only [step]
  rw [Finset.sum_add_distrib, pick_sum, pick_sum, mul_comm (y a), mul_comm (y b)]

/-- The result of a token is the sum over all experts of their outputs by their gates. -/
theorem gate_sum (x : Vec Ideal ⟨2, ![2048, 512]⟩ .f32) (r : Vec Ideal ⟨2, ![512, 32]⟩ .f32) (w : Vec Ideal ⟨3, ![32, 512, 1024]⟩ .f32)
    (hx : ∀ t k, IsReal (x (ix2 t k))) (hr : ∀ k e, IsReal (r (ix2 k e))) (t : Fin 2048) (n : Fin 1024) (a b : Fin 32) :
    (∑ e : Fin 32, output x w t n e * gate x r t a b e) = moe x r w t n a b := by
  obtain ⟨p, hp, ep⟩ := prob_pos x r hx hr t a
  obtain ⟨q, hq, eq⟩ := prob_pos x r hx hr t b
  unfold gate moe
  rw [ep, eq]
  exact mix _ a b p q hp hq

end Cert.Moe

end
-- ==== Proof.Domain.lean ====
/-
What the precondition says: every choice names one of the thirty-two experts, and every token and every entry of the
router's matrix is a real number.
-/
module

public import proofs.«01_k».proof.Pre_routable_KernelIdeal
public import proofs.«01_k».proof.Pre_routable_ReferenceIdeal
public import proofs.«01_k».proof.Proof.Router
public import Idealize.ShloMosaic.Lib.ReduceAll

@[expose] public section

noncomputable section

namespace Cert.Pre_routable_KernelIdeal.Moe

open Cert.Pre_routable_KernelIdeal
open Idealize.ShloMosaic

/-- The side conditions of the precondition's operations, on the kernel's arrays, -/
instance facts : Cert.Pre_routable_KernelIdeal.Facts where
  bcast_S_S2048x2 := by decide
  reducesTo_S2048x2_S_d0_1 := by decide
  h_S_ := by decide
  bcast_S_S2048x512 := by decide
  reducesTo_S2048x512_S_d0_1 := by decide
  bcast_S_S512x32 := by decide
  reducesTo_S512x32_S_d0_1 := by decide

/-- and on the reference's. -/
instance facts_ref : Cert.Pre_routable_ReferenceIdeal.Facts where
  bcast_S_S2048x2 := by decide
  reducesTo_S2048x2_S_d0_1 := by decide
  h_S_ := by decide
  bcast_S_S2048x512 := by decide
  reducesTo_S2048x512_S_d0_1 := by decide
  bcast_S_S512x32 := by decide
  reducesTo_S512x32_S_d0_1 := by decide

instance : Subsingleton S_.Idx := ⟨fun _ _ => funext fun a => a.elim0⟩

/-- A word at least 0 and less than 32 is an expert's number. -/
theorem word_expert (v : BitVec 32) (h0 : IntOp.cmpi .sge v 0#32 = 1#1) (h1 : IntOp.cmpi .slt v 32#32 = 1#1) : ∃ e : Fin 32, v = BitVec.ofNat 32 e.val := by
  have hv : v.toNat < 32 := by
    have h0' : BitVec.ofBool ((0#32).sle v) = BitVec.ofBool true := h0
    have h1' : BitVec.ofBool (v.slt 32#32) = BitVec.ofBool true := h1
    have e0 : (0#32).sle v = true := by revert h0'; cases (0#32).sle v <;> decide
    have e1 : v.slt 32#32 = true := by revert h1'; cases v.slt 32#32 <;> decide
    rw [BitVec.sle_iff_toInt_le, BitVec.toInt_eq_toNat_cond v] at e0
    rw [BitVec.slt_iff_toInt_lt, BitVec.toInt_eq_toNat_cond v] at e1
    have z0 : (0#32).toInt = 0 := by decide
    have z1 : (32#32).toInt = 32 := by decide
    rw [z0] at e0; rw [z1] at e1
    have := v.isLt
    split at e0 <;> omega
  refine ⟨⟨v.toNat, hv⟩, ?_⟩
  simp

/-- A value whose magnitude is less than infinity is a real number. -/
theorem real_of_lt (a : Ideal .f32) (h : FloatOps.cmpf .olt (FloatOps.hostAbsf a) (FloatOps.ofBits (F := Ideal) .f32 0x7F800000#32) = 1#1) : Cert.Moe.IsReal a := by
  have ht : Ideal.ofBits .f32 0x7F800000#32 = ⊤ := by simp [Ideal.ofBits, Ideal.ieee]
  have h' : Ideal.cmp .olt (max (a : EReal) (-(a : EReal))) ⊤ = 1#1 := by rw [← ht]; exact h
  constructor
  · rintro rfl; simp [Ideal.cmp] at h'
  · rintro rfl; simp [Ideal.cmp] at h'

variable (x : FVec Ideal S2048x512 .f32) (r : FVec Ideal S512x32 .f32) (i : IVec S2048x2 32) (w : FVec Ideal S8x512x1024 .f32)

/-- The precondition, read back. -/
theorem domain (h : fn x r i w = fun _ => 1#1) :
    (∃ E : Fin 2048 → Fin 2 → Fin 32, ∀ t k, i (ix2 t k) = BitVec.ofNat 32 (E t k).val)
      ∧ (∀ t k, Cert.Moe.IsReal (x (ix2 t k))) ∧ ∀ k e, Cert.Moe.IsReal (r (ix2 k e)) := by
  have h' := congrFun h (fun a => a.elim0)
  obtain ⟨hi, hf⟩ := IntOp.andi_eq_one.1 h'
  obtain ⟨hx, hr⟩ := IntOp.andi_eq_one.1 hf
  refine ⟨?_, fun t k => real_of_lt _ (Host.reduce_andi_all _ _ _ _ _ hx (ix2 t k)), fun k e => real_of_lt _ (Host.reduce_andi_all _ _ _ _ _ hr (ix2 k e))⟩
  have hw (t : Fin 2048) (k : Fin 2) : ∃ e : Fin 32, i (ix2 t k) = BitVec.ofNat 32 e.val := by
    obtain ⟨h0, h1⟩ := IntOp.andi_eq_one.1 (Host.reduce_andi_all _ _ _ _ _ hi (ix2 t k))
    exact word_expert _ h0 h1
  exact ⟨fun t k => (hw t k).choose, fun t k => (hw t k).choose_spec⟩

end Cert.Pre_routable_KernelIdeal.Moe

end
-- ==== Proof.Shares.lean ====
/-
What the kernel's arrays hold over the extended reals, in the words of the problem: a gate column is the gates of one
expert, a share the sum over a device's eight experts of their outputs by their gates, and an entry of a device's block
of the result the same sum over all thirty-two.
-/
module

public import proofs.«01_k».proof.Proof.Contents
public import proofs.«01_k».proof.Proof.Router

@[expose] public section

set_option maxRecDepth 16384

noncomputable section

namespace Cert.KernelIdeal.Moe

open Cert.KernelIdeal Cert.KernelIdeal.Gen
open Idealize.ShloMosaic Idealize.ShloMosaic.TcCoe Idealize.SL.Sem

/-! ## Numbers -/

/-- The number of device `c`'s `j`-th expert among all, -/
def expert (c : Dev nD) (j : Fin 8) : Fin 32 := ⟨8 * c.val + j.val, by have hc : c.val < 4 := c.isLt; omega⟩
/-- and of row `s` of half `h` of device `p`'s tokens. -/
def token (p : Dev nD) (h : Fin 2) (s : Fin 256) : Fin 2048 := ⟨512 * p.val + 256 * h.val + s.val, by have hp : p.val < 4 := p.isLt; omega⟩

/-- The kernel computes an expert's number. -/
theorem expertWord_eq (c : Dev nD) (j : Fin 8) : expertWord c (BitVec.ofNat 32 j.val) = BitVec.ofNat 32 (expert c j).val := by
  revert c j; decide

/-- Choosing by whether two experts' words agree is choosing by whether the experts do. -/
theorem select_word {α : Type} (a e : Fin 32) (u v : α) :
    Scalar.select (IntOp.cmpi .eq (BitVec.ofNat 32 a.val) (BitVec.ofNat 32 e.val)) u v = if a = e then u else v := by
  have hw : IntOp.cmpi .eq (BitVec.ofNat 32 a.val) (BitVec.ofNat 32 e.val) = if a = e then 1#1 else 0#1 := by revert a e; decide
  rw [hw]
  split <;> rfl

/-! ## Gates -/

section Gates

variable (x : Vec Ideal S2048x512 .f32) (r : Vec Ideal S512x32 .f32) (i j : Vec Ideal S2048x1 .i32) (t : Fin 2048) (a b e : Fin 32)

/-- The kernel's softmax is the problem's, -/
theorem softmax_apply : k0_pay3 (k0_pay1 x r) (k0_pay2 x r) (ix2 t e) = Cert.Moe.prob x r t e := by
  pointwise [k0_pay3, k0_pay1, k0_pay2]
  rfl

/-- the probability of a token's first choice its row's entry there, -/
theorem prob0_apply (h : i (ix2 t (0 : Fin 1)) = BitVec.ofNat 32 a.val) : prob0 x r i (ix2 t (0 : Fin 1)) = Cert.Moe.prob x r t a := by
  have hp := softmax_apply x r t
  unfold prob0 k0_pay6
  generalize k0_pay3 (k0_pay1 x r) (k0_pay2 x r) = p at hp
  pointwise [k0_pay4]
  simp only [h, select_word, hp]
  exact (Finset.sum_ite_eq' Finset.univ a _).trans (if_pos (Finset.mem_univ a))

/-- of its second the same, -/
theorem prob1_apply (h : i (ix2 t (0 : Fin 1)) = BitVec.ofNat 32 a.val) : prob1 x r i (ix2 t (0 : Fin 1)) = Cert.Moe.prob x r t a := by
  have hp := softmax_apply x r t
  unfold prob1 k0_pay7
  generalize k0_pay3 (k0_pay1 x r) (k0_pay2 x r) = p at hp
  pointwise [k0_pay5]
  simp only [h, select_word, hp]
  exact (Finset.sum_ite_eq' Finset.univ a _).trans (if_pos (Finset.mem_univ a))

/-- and the gates of an expert the problem's. -/
theorem gateCol_apply (hi : i (ix2 t (0 : Fin 1)) = BitVec.ofNat 32 a.val) (hj : j (ix2 t (0 : Fin 1)) = BitVec.ofNat 32 b.val) :
    gateCol (BitVec.ofNat 32 e.val) x r i j (ix2 t (0 : Fin 1)) = Cert.Moe.gate x r t a b e := by
  pointwise [gateCol, k0_pay4, k0_pay5]
  rw [prob0_apply x r i t a hi, prob1_apply x r j t b hj, hi, hj, select_word, select_word]
  rfl

end Gates

/-- The half block of a device's eight experts is the sum of their outputs by their gates. -/
theorem halfSum_apply (xv : Vec Ideal S256x512 .f32) (g : Vec Ideal S256x8 .f32) (w : Fin 8 → Vec Ideal S1x512x1024 .bf16) (s : Fin 256) (n : Fin 1024) :
    halfSum xv g w (ix2 s n) = ∑ j : Fin 8, (∑ k : Fin 512, xv (ix2 s k) * w j (ix3 (0 : Fin 1) k n)) * g (ix2 s j) := by
  pointwise [halfSum, tokens, expertTerm]
  rw [Fin.sum_univ_eight]

/-- Half a block of the result is the sum of the device's own share and the three received. -/
theorem gathered_apply (a b c d : FVec Ideal S256x1024 .f32) (s : Fin 256) (n : Fin 1024) :
    gathered a (packed b) (packed c) (packed d) (ix2 s n) = a (ix2 s n) + b (ix2 s n) + c (ix2 s n) + d (ix2 s n) := by
  pointwise [gathered, packed, unpacked]

/-! ## Arrays -/

section Arrays

variable (m : (ℓ : Loc nD τ sig) → Buf (Elt Ideal) ℓ)

/-- What the kernel finds in its arrays are the arguments, -/
theorem xIn_eq (c : Dev nD) : xIn m c = m ((c : Thread nD τ).loc main_arg0) := by
  funext i
  show m ((c : Thread nD τ).loc main_arg0) ((win0_0.blk (0 : Fin 1)).view.emb i) = _
  refine congrArg (m ((c : Thread nD τ).loc main_arg0)) (funext fun a => Fin.ext ?_)
  show 0 * (S2048x512.size a) + 1 * (i a).val = (i a).val
  rw [Nat.zero_mul, Nat.zero_add, Nat.one_mul]
theorem rIn_eq (c : Dev nD) : rIn m c = m ((c : Thread nD τ).loc main_arg1) := by
  funext i
  show m ((c : Thread nD τ).loc main_arg1) ((win0_1.blk (0 : Fin 1)).view.emb i) = _
  refine congrArg (m ((c : Thread nD τ).loc main_arg1)) (funext fun a => Fin.ext ?_)
  show 0 * (S512x32.size a) + 1 * (i a).val = (i a).val
  rw [Nat.zero_mul, Nat.zero_add, Nat.one_mul]
theorem iIn_eq (c : Dev nD) : iIn m c = m ((c : Thread nD τ).loc main_arg2) := by
  funext i
  show m ((c : Thread nD τ).loc main_arg2) ((win0_2.blk (0 : Fin 1)).view.emb i) = _
  refine congrArg (m ((c : Thread nD τ).loc main_arg2)) (funext fun a => Fin.ext ?_)
  show 0 * (S2048x2.size a) + 1 * (i a).val = (i a).val
  rw [Nat.zero_mul, Nat.zero_add, Nat.one_mul]
theorem wIn_eq (c : Dev nD) : wIn m c = m ((c : Thread nD τ).loc main_arg3) := by
  funext i
  show m ((c : Thread nD τ).loc main_arg3) ((win0_3.blk (0 : Fin 1)).view.emb i) = _
  refine congrArg (m ((c : Thread nD τ).loc main_arg3)) (funext fun a => Fin.ext ?_)
  show 0 * (S8x512x1024.size a) + 1 * (i a).val = (i a).val
  rw [Nat.zero_mul, Nat.zero_add, Nat.one_mul]

/-- a column of choices its column of the choices, -/
theorem i0In_apply (c : Dev nD) (t : Fin 2048) : i0In m c (ix2 t (0 : Fin 1)) = m ((c : Thread nD τ).loc main_arg2) (ix2 t (0 : Fin 2)) := by
  rw [← iIn_eq m c]
  refine congrArg (iIn m c) (funext fun a => Fin.ext ?_)
  match a with
  | ⟨0, _⟩ => show 0 + 1 * t.val = t.val; omega
  | ⟨1, _⟩ => rfl
theorem i1In_apply (c : Dev nD) (t : Fin 2048) : i1In m c (ix2 t (0 : Fin 1)) = m ((c : Thread nD τ).loc main_arg2) (ix2 t (1 : Fin 2)) := by
  rw [← iIn_eq m c]
  refine congrArg (iIn m c) (funext fun a => Fin.ext ?_)
  match a with
  | ⟨0, _⟩ => show 0 + 1 * t.val = t.val; omega
  | ⟨1, _⟩ => rfl

/-- an expert's matrix its matrix, -/
theorem weightAt_apply (c : Dev nD) (j : Fin 8) (k : Fin 512) (n : Fin 1024) :
    weightAt m c j (ix3 (0 : Fin 1) k n) = m ((c : Thread nD τ).loc main_arg3) (ix3 j k n) := by
  unfold weightAt
  pointwise [weight, k0_pay22]
  rw [← wIn_eq m c]
  refine congrArg (wIn m c) (funext fun a => Fin.ext ?_)
  match a with
  | ⟨0, _⟩ => show j.val + 1 * 0 = j.val; omega
  | ⟨1, _⟩ => show 0 + 1 * k.val = k.val; omega
  | ⟨2, _⟩ => show 0 + 1 * n.val = n.val; omega

/-- a half block's tokens their rows, -/
theorem rowsX_apply (f : Vec Ideal S2048x512 .f32) (p : Dev nD) (h : Fin 2) (s : Fin 256) (k : Fin 512) :
    xM.view.readAt (Elt Ideal) (rowsX p h).toLoadRect f (ix2 s k) = f (ix2 (token p h s) k) := by
  refine congrArg f (funext fun a => Fin.ext ?_)
  match a with
  | ⟨0, _⟩ => show 512 * p.val + 256 * h.val + 1 * s.val = 512 * p.val + 256 * h.val + s.val; omega
  | ⟨1, _⟩ => show 0 + 1 * k.val = k.val; omega

/-- and its gates their columns'. -/
theorem rowsG_apply (c p : Dev nD) (h : Fin 2) (s : Fin 256) (j : Fin 8) :
    gM.view.readAt (Elt Ideal) (rowsG p h).toLoadRect (gates m c) (ix2 s j) = gateAt m c j (ix2 (token p h s) (0 : Fin 1)) := by
  have hi : (rowsG p h).toLoadRect.idx (ix2 s j) = (ix2 (token p h s) j : S2048x8.Idx) := by
    funext a; refine Fin.ext ?_
    match a with
    | ⟨0, _⟩ => show 512 * p.val + 256 * h.val + 1 * s.val = 512 * p.val + 256 * h.val + s.val; omega
    | ⟨1, _⟩ => show 0 + 1 * j.val = j.val; omega
  refine (congrArg (gates m c) hi).trans ?_
  unfold gates
  refine congrArg₂ (fun a b => gateAt m c a b) rfl ?_
  funext a
  match a with | ⟨0, _⟩ => rfl | ⟨1, _⟩ => rfl

end Arrays

/-! ## Shares and blocks -/

section Values

variable (m : (ℓ : Loc nD τ sig) → Buf (Elt Ideal) ℓ)
variable (x : Vec Ideal S2048x512 .f32) (r : Vec Ideal S512x32 .f32) (i : Vec Ideal S2048x2 .i32) (w : Vec Ideal ⟨3, ![32, 512, 1024]⟩ .f32)
variable (hx : ∀ c : Dev nD, m ((c : Thread nD τ).loc main_arg0) = x) (hr : ∀ c : Dev nD, m ((c : Thread nD τ).loc main_arg1) = r)
variable (hi : ∀ c : Dev nD, m ((c : Thread nD τ).loc main_arg2) = i)
variable (hw : ∀ (c : Dev nD) (j : Fin 8) (k : Fin 512) (n : Fin 1024), m ((c : Thread nD τ).loc main_arg3) (ix3 j k n) = w (ix3 (expert c j) k n))
variable (E : Fin 2048 → Fin 2 → Fin 32) (hE : ∀ t k, i (ix2 t k) = BitVec.ofNat 32 (E t k).val)

include hx hr hi hE in
/-- A device's gates are its experts'. -/
theorem gateAt_apply (c : Dev nD) (j : Fin 8) (t : Fin 2048) :
    gateAt m c j (ix2 t (0 : Fin 1)) = Cert.Moe.gate x r t (E t 0) (E t 1) (expert c j) := by
  unfold gateAt
  rw [xIn_eq, rIn_eq, hx, hr, expertWord_eq]
  exact gateCol_apply x r _ _ t _ _ _ ((i0In_apply m c t).trans (by rw [hi, hE])) ((i1In_apply m c t).trans (by rw [hi, hE]))

include hx hr hi hw hE in
/-- A share is the sum over the device's experts. -/
theorem share_apply (c p : Dev nD) (h : Fin 2) (s : Fin 256) (n : Fin 1024) :
    share m c p h (ix2 s n) = ∑ j : Fin 8, Cert.Moe.output x w (token p h s) n (expert c j)
      * Cert.Moe.gate x r (token p h s) (E (token p h s) 0) (E (token p h s) 1) (expert c j) := by
  unfold share
  rw [halfSum_apply]
  refine Finset.sum_congr rfl fun j _ => ?_
  rw [rowsG_apply, gateAt_apply m x r i hx hr hi E hE]
  refine congrArg (· * _) ?_
  unfold Cert.Moe.output
  refine Finset.sum_congr rfl fun k _ => ?_
  rw [weightAt_apply, hw, xIn_eq, hx, rowsX_apply]

/-- A sum over a device and its three sources is one over all devices, -/
theorem sum_devices (f : Dev nD → EReal) (c : Dev nD) : f c + f (src 0 c) + f (src 1 c) + f (src 2 c) = ∑ d : Dev nD, f d := by
  have e : (∑ d : Dev nD, f d) = f 0 + f 1 + f 2 + f 3 := Fin.sum_univ_four f
  rw [e]
  have hc : c = 0 ∨ c = 1 ∨ c = 2 ∨ c = 3 := by revert c; decide
  rcases hc with rfl | rfl | rfl | rfl
  · rw [show src 0 0 = 3 by decide, show src 1 0 = 1 by decide, show src 2 0 = 2 by decide]; abel
  · rw [show src 0 1 = 0 by decide, show src 1 1 = 2 by decide, show src 2 1 = 3 by decide]; abel
  · rw [show src 0 2 = 1 by decide, show src 1 2 = 3 by decide, show src 2 2 = 0 by decide]; abel
  · rw [show src 0 3 = 2 by decide, show src 1 3 = 0 by decide, show src 2 3 = 1 by decide]; abel

/-- and over all devices' experts one over all experts. -/
theorem sum_experts (f : Fin 32 → EReal) : (∑ d : Dev nD, ∑ j : Fin 8, f (expert d j)) = ∑ e : Fin 32, f e := by
  rw [← Fintype.sum_prod_type' (fun (d : Dev nD) (j : Fin 8) => f (expert d j))]
  refine Fintype.sum_equiv (finProdFinEquiv (m := 4) (n := 8)) _ _ fun y => congrArg f (Fin.ext ?_)
  show 8 * y.1.val + y.2.val = y.2.val + 8 * y.1.val
  omega

/-- Either half of a device's block is the four devices' shares of it. -/
theorem outHalf_apply (c : Dev nD) (h : Fin 2) (s : Fin 256) (n : Fin 1024) :
    outHalf m c h (ix2 s n) = ∑ d : Dev nD, share m d c h (ix2 s n) := by
  rw [← sum_devices (fun d => share m d c h (ix2 s n)) c]
  match h with
  | 0 =>
    show gathered _ (packed (share m (src 0 c) (tgt 0 (src 0 c)) 0)) (packed (share m (src 1 c) (tgt 1 (src 1 c)) 0)) (packed (share m (src 2 c) (tgt 2 (src 2 c)) 0)) _ = _
    rw [gathered_apply, tgt_src, tgt_src, tgt_src]
  | 1 =>
    show gathered _ (packed (share m (src 0 c) (tgt 0 (src 0 c)) 1)) (packed (share m (src 1 c) (tgt 1 (src 1 c)) 1)) (packed (share m (src 2 c) (tgt 2 (src 2 c)) 1)) _ = _
    rw [gathered_apply, tgt_src, tgt_src, tgt_src]

include hx hr hi hw hE in
/-- THE KERNEL, at a row of a device's block and a column: the token's result. -/
theorem outHalf_moe (fx : ∀ t k, Cert.Moe.IsReal (x (ix2 t k))) (fr : ∀ k e, Cert.Moe.IsReal (r (ix2 k e))) (c : Dev nD) (h : Fin 2) (s : Fin 256) (n : Fin 1024) :
    outHalf m c h (ix2 s n) = Cert.Moe.moe x r w (token c h s) n (E (token c h s) 0) (E (token c h s) 1) := by
  rw [outHalf_apply, ← Cert.Moe.gate_sum x r w fx fr, ← sum_experts]
  exact Finset.sum_congr rfl fun d _ => share_apply m x r i w hx hr hi hw E hE d c h s n

end Values

end Cert.KernelIdeal.Moe

end
-- ==== Proof.Reference.lean ====
/-
The reference's term, read in the words of the problem: a token's two probabilities, taken out of the softmax's rows at
its two choices, the two gates they make, and the token's product with the two chosen experts' matrices.
-/
module

public import proofs.«01_k».proof.Proof.Gen.ReferenceIdeal.Run
public import proofs.«01_k».proof.Proof.Router
public import Idealize.ShloMosaic.Lib.ReduceAll

@[expose] public section

set_option maxRecDepth 16384

noncomputable section

namespace Cert.ReferenceIdeal.Moe

open Cert.ReferenceIdeal Cert.ReferenceIdeal.Gen
open Idealize.ShloMosaic Idealize.ShloMosaic.TcCoe Idealize.SL.Sem

/-! ## The term in parts -/

section Parts

variable {F : FTy → Type} [FloatOps F]

/-- The router's scores. -/
def scores (x : FVec F S2048x512 .f32) (r : FVec F S512x32 .f32) : FVec F S2048x32 .f32 :=
  Host.dotGeneral dot_S2048x512_S512x32_S2048x32_1_0_0_1_n_n none x r

/-- The exponentials of scores less their row's largest. -/
def expos (s : FVec F S2048x32 .f32) : FVec F S2048x32 .f32 :=
  Host.exp (subf s (broadcastInDim S2048x32 ![0, 1] bcast_S2048x1_S2048x32_0_1 (broadcastInDim S2048x1 ![0] bcast_S2048_S2048x1_0
    (Host.reduce FloatOps.maximumf s (constant S_ .f32 0xFF800000#32) reducesTo_S2048x32_S2048_d1 h_S_))))

/-- The softmax of the scores. -/
def probs (s : FVec F S2048x32 .f32) : FVec F S2048x32 .f32 :=
  Host.divf (expos s) (broadcastInDim S2048x32 ![0, 1] bcast_S2048x1_S2048x32_0_1 (broadcastInDim S2048x1 ![0] bcast_S2048_S2048x1_0
    (Host.reduceAdd (expos s) (constant S_ .f32 0x00000000#32) reducesTo_S2048x32_S2048_d1 h_S_)))

/-- A column of choices, a negative one counted from the end, as the positions in the softmax's rows; -/
def places (c : IVec S2048x1 32) : IVec S2048x1x1 32 :=
  let v : IVec S2048x1 32 := broadcastInDim S2048x1 ![0] bcast_S2048_S2048x1_0 (shapeCast _ c shapeCasts_S2048x1_S2048)
  shapeCast _ (select (cmpi .slt v (broadcastInDim S2048x1 ![] bcast_S_S2048x1 (constantI S_ 32 0#32)))
    (addi v (broadcastInDim S2048x1 ![] bcast_S_S2048x1 (constantI S_ 32 32#32))) v) shapeCasts_S2048x1_S2048x1x1

/-- which of the positions lie in a row; -/
def inside (i : IVec S2048x1x1 32) : IVec S2048x1x1 1 :=
  andi (cmpi .sge i (broadcastInDim S2048x1x1 ![] bcast_S_S2048x1x1 (constantI S_ 32 0#32)))
    (cmpi .sle i (broadcastInDim S2048x1x1 ![0, 1, 2] bcast_S1x1x1_S2048x1x1_0_1_2 (broadcastInDim S1x1x1 ![2] bcast_S1_S1x1x1_2 (constantI S1 32 31#32))))

/-- and the probabilities at them. -/
def chosen (p : FVec F S2048x32 .f32) (c : IVec S2048x1 32) : FVec F S2048x1 .f32 :=
  select (Host.reduce IntOp.andi (inside (places c)) (constantI S_ 1 1#1) reducesTo_S2048x1x1_S2048x1_d2 h_S_)
    (Host.gather gather_S2048x32_S2048x1x1_S2048x1_n_1_0_0_1_2_11 p (places c))
    (broadcastInDim S2048x1 ![] bcast_S_S2048x1 (constant S_ .f32 0x7FC00000#32))

/-- The numbers of the chosen experts, a negative one counted from the end; -/
def numbers (c : IVec S2048x1 32) : IVec S2048x1 32 :=
  let v : IVec S2048 32 := shapeCast _ c shapeCasts_S2048x1_S2048
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 32#32))) v)

/-- and their matrices, one a token. -/
def matrices (w : FVec F S32x512x1024 .f32) (c : IVec S2048x1 32) : FVec F S2048x512x1024 .f32 :=
  Host.gather gather_S32x512x1024_S2048x1_S2048x512x1024_12_0_n_n_0_1_15121024 w (numbers c)

/-- One choice's part of the result. -/
def part (x : FVec F S2048x512 .f32) (w : FVec F S32x512x1024 .f32) (g h k : FVec F S2048x1 .f32) (c : IVec S2048x1 32) : FVec F S2048x1024 .f32 :=
  mulf (broadcastInDim S2048x1024 ![0, 1] bcast_S2048x1_S2048x1024_0_1 (Host.divf g (addf h k)))
    (Host.dotGeneral dot_S2048x512_S2048x512x1024_S2048x1024_1_1_n_2_0_0 none x (matrices w c))

/-- The reference's result. -/
def result (x : FVec F S2048x512 .f32) (r : FVec F S512x32 .f32) (i : IVec S2048x2 32) (w : FVec F S32x512x1024 .f32) : FVec F S2048x1024 .f32 :=
  let p := probs (scores x r)
  let c0 := extractStridedSlice S2048x1 ![0, 0] i slices_S2048x2_S2048x1_0_0
  let c1 := extractStridedSlice S2048x1 ![0, 1] i slices_S2048x2_S2048x1_0_1
  addf (part x w (chosen p c0) (chosen p c0) (chosen p c1) c0) (part x w (chosen p c1) (chosen p c0) (chosen p c1) c1)

/-- It is what the reference's run leaves. -/
theorem result_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v41; rfl

end Parts

/-! ## The gathers -/

/-- The softmax's gather, -/
abbrev gp : GatherDims S2048x32 S2048x1x1 S2048x1 := gather_S2048x32_S2048x1x1_S2048x1_n_1_0_0_1_2_11
/-- the matrices'. -/
abbrev gm : GatherDims S32x512x1024 S2048x1 S2048x512x1024 := gather_S32x512x1024_S2048x1_S2048x512x1024_12_0_n_n_0_1_15121024

theorem gp_batch : (0 : Fin 2) ∈ gp.operandBatchingDims := by show (0 : Fin 2) ∈ [0]; decide
theorem gp_start : (1 : Fin 2) ∈ gp.startIndexMap := by show (1 : Fin 2) ∈ [1]; decide
theorem gp_nobatch : (1 : Fin 2) ∉ gp.operandBatchingDims := by show (1 : Fin 2) ∉ [0]; decide
theorem gp_nokept (a : Fin 2) : a ∉ gp.sKept := by
  rw [GatherDims.mem_sKept]; show ¬(a ∉ [1] ∧ a ∉ [0]); revert a; decide
theorem gm_start : (0 : Fin 3) ∈ gm.startIndexMap := by show (0 : Fin 3) ∈ [0]; decide
theorem gm_nostart (a : Fin 3) (h : a ≠ 0) : a ∉ gm.startIndexMap := by show a ∉ [0]; revert a; decide
theorem gm_nobatch (a : Fin 3) : a ∉ gm.operandBatchingDims := by show a ∉ []; exact List.not_mem_nil
theorem gm_nokept : (0 : Fin 3) ∉ gm.sKept := by
  rw [GatherDims.mem_sKept]; show ¬((0 : Fin 3) ∉ [0] ∧ (0 : Fin 3) ∉ []); decide

/-- A row's entry at a position. -/
theorem gather_place {α : Type} (p : S2048x32.Idx → α) (i : IVec S2048x1x1 32) (t : Fin 2048) (e : Fin 32)
    (h : (i (ix3 t (0 : Fin 1) (0 : Fin 1))).toInt.toNat = e.val) :
    Host.gather gp p i (ix2 t (0 : Fin 1)) = p (ix2 t e) := by
  have hs : gp.siIdx (ix2 t (0 : Fin 1)) ⟨gp.startIndexMap.idxOf 1, List.idxOf_lt_length_iff.2 gp_start⟩ = ix3 t (0 : Fin 1) (0 : Fin 1) := by
    funext b; match b with | ⟨0, _⟩ => rfl | ⟨1, _⟩ => rfl | ⟨2, _⟩ => rfl
  have h0 : gp.start (ix2 t (0 : Fin 1)) i (0 : Fin 2) + gp.batchCoord (ix2 t (0 : Fin 1)) (0 : Fin 2) + gp.offCoord (ix2 t (0 : Fin 1)) (0 : Fin 2) = t.val := by
    rw [gp.start_batching _ _ _ gp_batch, gp.offCoord_eq_zero _ _ (gp_nokept 0), Nat.zero_add, Nat.add_zero]
    unfold GatherDims.batchCoord; rw [dif_pos gp_batch]; rfl
  have h1 : gp.start (ix2 t (0 : Fin 1)) i (1 : Fin 2) + gp.batchCoord (ix2 t (0 : Fin 1)) (1 : Fin 2) + gp.offCoord (ix2 t (0 : Fin 1)) (1 : Fin 2) = e.val := by
    rw [gp.batchCoord_eq_zero _ _ gp_nobatch, gp.offCoord_eq_zero _ _ (gp_nokept 1), Nat.add_zero]
    unfold GatherDims.start; rw [dif_pos gp_start, hs, h]
    show min e.val (32 - 1) = e.val
    have := e.isLt; omega
  refine congrArg p (funext fun a => Fin.ext ?_)
  match a with | ⟨0, _⟩ => exact h0 | ⟨1, _⟩ => exact h1

/-- The matrix of the expert of a number. -/
theorem gather_number {α : Type} (w : S32x512x1024.Idx → α) (i : IVec S2048x1 32) (t : Fin 2048) (k : Fin 512) (n : Fin 1024) (e : Fin 32)
    (h : (i (ix2 t (0 : Fin 1))).toInt.toNat = e.val) :
    Host.gather gm w i (ix3 t k n) = w (ix3 e k n) := by
  have hs : gm.siIdx (ix3 t k n) ⟨gm.startIndexMap.idxOf 0, List.idxOf_lt_length_iff.2 gm_start⟩ = ix2 t (0 : Fin 1) := by
    funext b; match b with | ⟨0, _⟩ => rfl | ⟨1, _⟩ => rfl
  have h0 : gm.start (ix3 t k n) i (0 : Fin 3) + gm.batchCoord (ix3 t k n) (0 : Fin 3) + gm.offCoord (ix3 t k n) (0 : Fin 3) = e.val := by
    rw [gm.batchCoord_eq_zero _ _ (gm_nobatch 0), gm.offCoord_eq_zero _ _ gm_nokept, Nat.add_zero]
    unfold GatherDims.start; rw [dif_pos gm_start, hs, h]
    show min e.val (32 - 1) = e.val
    have := e.isLt; omega
  have h1 : gm.start (ix3 t k n) i (1 : Fin 3) + gm.batchCoord (ix3 t k n) (1 : Fin 3) + gm.offCoord (ix3 t k n) (1 : Fin 3) = k.val := by
    rw [gm.batchCoord_eq_zero _ _ (gm_nobatch 1), Nat.add_zero]
    unfold GatherDims.start; rw [dif_neg (gm_nostart 1 (by decide)), Nat.zero_add]; rfl
  have h2 : gm.start (ix3 t k n) i (2 : Fin 3) + gm.batchCoord (ix3 t k n) (2 : Fin 3) + gm.offCoord (ix3 t k n) (2 : Fin 3) = n.val := by
    rw [gm.batchCoord_eq_zero _ _ (gm_nobatch 2), Nat.add_zero]
    unfold GatherDims.start; rw [dif_neg (gm_nostart 2 (by decide)), Nat.zero_add]; rfl
  refine congrArg w (funext fun a => Fin.ext ?_)
  match a with | ⟨0, _⟩ => exact h0 | ⟨1, _⟩ => exact h1 | ⟨2, _⟩ => exact h2

/-! ## The values -/

section Words

/-- An expert's number as a word is not negative, lies among the 32, and reads back. -/
theorem word_slt (e : Fin 32) : IntOp.cmpi .slt (BitVec.ofNat 32 e.val) 0#32 = 0#1 := by revert e; decide
theorem word_sge (e : Fin 32) : IntOp.cmpi .sge (BitVec.ofNat 32 e.val) 0#32 = 1#1 := by revert e; decide
theorem word_sle (e : Fin 32) : IntOp.cmpi .sle (BitVec.ofNat 32 e.val) 31#32 = 1#1 := by revert e; decide
theorem word_toNat (e : Fin 32) : (BitVec.ofNat 32 e.val).toInt.toNat = e.val := by revert e; decide

end Words

section Values

variable (c : IVec S2048x1 32) (E : Fin 2048 → Fin 32) (h : ∀ t, c (ix2 t (0 : Fin 1)) = BitVec.ofNat 32 (E t).val)
include h

/-- A choice that names an expert is its own position, -/
theorem places_apply (t : Fin 2048) : places c (ix3 t (0 : Fin 1) (0 : Fin 1)) = BitVec.ofNat 32 (E t).val := by
  pointwise [places]
  rw [h, word_slt]; rfl

/-- its own number, -/
theorem numbers_apply (t : Fin 2048) : numbers c (ix2 t (0 : Fin 1)) = BitVec.ofNat 32 (E t).val := by
  pointwise [numbers]
  rw [h, word_slt]; rfl

/-- and lies in its row; -/
theorem inside_apply (i : S2048x1x1.Idx) : inside (places c) i = 1#1 := by
  obtain ⟨t, rfl⟩ : ∃ t : Fin 2048, i = ix3 t (0 : Fin 1) (0 : Fin 1) := by
    refine ⟨i 0, ?_⟩
    funext a; match a with | ⟨0, _⟩ => rfl | ⟨1, _⟩ => exact Subsingleton.elim (α := Fin 1) _ _ | ⟨2, _⟩ => exact Subsingleton.elim (α := Fin 1) _ _
  pointwise [inside]
  rw [places_apply c E h, word_sge, word_sle]; rfl

/-- so what is taken from the row is its entry, -/
theorem chosen_apply {F : FTy → Type} [FloatOps F] (p : FVec F S2048x32 .f32) (t : Fin 2048) : chosen p c (ix2 t (0 : Fin 1)) = p (ix2 t (E t)) := by
  show Scalar.select (Host.reduce IntOp.andi (inside (places c)) (constantI S_ 1 1#1) reducesTo_S2048x1x1_S2048x1_d2 h_S_ (ix2 t (0 : Fin 1))) _ _ = _
  rw [Host.reduce_andi_one _ _ _ _ _ rfl (inside_apply c E h)]
  exact gather_place p _ t (E t) (by rw [places_apply c E h, word_toNat])

/-- and what is taken from the experts its expert. -/
theorem matrices_apply {F : FTy → Type} [FloatOps F] (w : FVec F S32x512x1024 .f32) (t : Fin 2048) (k : Fin 512) (n : Fin 1024) :
    matrices w c (ix3 t k n) = w (ix3 (E t) k n) :=
  gather_number w _ t k n (E t) (by rw [numbers_apply c E h, word_toNat])

end Values

theorem probs_apply (x : FVec Ideal S2048x512 .f32) (r : FVec Ideal S512x32 .f32) (t : Fin 2048) (e : Fin 32) :
    probs (scores x r) (ix2 t e) = Cert.Moe.prob x r t e := by
  pointwise [probs, expos, scores]
  rfl

/-- THE REFERENCE, at a token and a column: the two outputs by their gates. -/
theorem result_apply (x : FVec Ideal S2048x512 .f32) (r : FVec Ideal S512x32 .f32) (i : IVec S2048x2 32) (w : FVec Ideal S32x512x1024 .f32)
    (E : Fin 2048 → Fin 2 → Fin 32) (h : ∀ t k, i (ix2 t k) = BitVec.ofNat 32 (E t k).val) (t : Fin 2048) (n : Fin 1024) :
    result x r i w (ix2 t n) = Cert.Moe.moe x r w t n (E t 0) (E t 1) := by
  have h0 (t : Fin 2048) : extractStridedSlice S2048x1 ![0, 0] i slices_S2048x2_S2048x1_0_0 (ix2 t (0 : Fin 1)) = BitVec.ofNat 32 (E t 0).val := by
    pointwise; exact h t 0
  have h1 (t : Fin 2048) : extractStridedSlice S2048x1 ![0, 1] i slices_S2048x2_S2048x1_0_1 (ix2 t (0 : Fin 1)) = BitVec.ofNat 32 (E t 1).val := by
    pointwise; exact h t 1
  unfold result
  generalize extractStridedSlice S2048x1 ![0, 0] i slices_S2048x2_S2048x1_0_0 = c0 at h0
  generalize extractStridedSlice S2048x1 ![0, 1] i slices_S2048x2_S2048x1_0_1 = c1 at h1
  pointwise [part]
  simp only [chosen_apply c0 (fun t => E t 0) h0, chosen_apply c1 (fun t => E t 1) h1, probs_apply, matrices_apply c0 (fun t => E t 0) h0, matrices_apply c1 (fun t => E t 1) h1]
  rfl

end Cert.ReferenceIdeal.Moe

end
-- ==== Proof.Equation.lean ====
/-
The equation: over the reals each device's block of the kernel's result is its block of the reference's.
-/
module

public import proofs.«01_k».proof.Proof.Frames
public import proofs.«01_k».proof.Proof.Domain
public import proofs.«01_k».proof.Proof.Shares
public import proofs.«01_k».proof.Proof.Reference

@[expose] public section

set_option maxRecDepth 16384

noncomputable section

namespace Cert.Proof

open Idealize.ShloMosaic Idealize.SL.Sem

/-- A device's block of an array of expert matrices holds its own experts'. -/
theorem block_matrices (c : Dev Cert.KernelIdeal.nD) (v : Vec Ideal ⟨3, ![32, 512, 1024]⟩ .f32) (j : Fin 8) (k : Fin 512) (n : Fin 1024) :
    Layout.block ⟨3, ![8, 512, 1024]⟩ ⟨3, ![32, 512, 1024]⟩ 0 4 c v (by decide) (ix3 j k n) = v (ix3 (Cert.KernelIdeal.Moe.expert c j) k n) := by
  refine congrArg v (funext fun a => Fin.ext ?_)
  match a with
  | ⟨0, _⟩ => show c.val * 8 + j.val = 8 * c.val + j.val; omega
  | ⟨1, _⟩ => rfl
  | ⟨2, _⟩ => rfl

/-- A device's block of the result at a row of a half holds that token's row. -/
theorem block_tokens (c : Dev Cert.KernelIdeal.nD) (v : Vec Ideal ⟨2, ![2048, 1024]⟩ .f32) (i : Cert.KernelIdeal.S512x1024.Idx) (h : Fin 2) (s : Fin 256) (n : Fin 1024)
    (h0 : (i 0).val = 256 * h.val + s.val) (h1 : (i 1).val = n.val) :
    Layout.block ⟨2, ![512, 1024]⟩ ⟨2, ![2048, 1024]⟩ 0 4 c v (by decide) i = v (ix2 (Cert.KernelIdeal.Moe.token c h s) n) := by
  refine congrArg v (funext fun a => Fin.ext ?_)
  match a with
  | ⟨0, _⟩ => show c.val * 512 + (i 0).val = 512 * c.val + 256 * h.val + s.val; omega
  | ⟨1, _⟩ => exact h1

/-- Each device's block of the kernel's result is its block of the reference's. -/
theorem block_eq (m : (ℓ : Loc Cert.KernelIdeal.nD Cert.KernelIdeal.τ Cert.KernelIdeal.sig) → Buf (Elt Ideal) ℓ)
    (x : Vec Ideal ⟨2, ![2048, 512]⟩ .f32) (r : Vec Ideal ⟨2, ![512, 32]⟩ .f32) (i : Vec Ideal ⟨2, ![2048, 2]⟩ .i32) (w : Vec Ideal ⟨3, ![32, 512, 1024]⟩ .f32)
    (hm : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = r
      ∧ m ((c.tc : Thread Cert.KernelIdeal.nD Cert.KernelIdeal.τ).loc Cert.KernelIdeal.main_arg2) = i
      ∧ m ((c.tc : Thread Cert.KernelIdeal.nD Cert.KernelIdeal.τ).loc Cert.KernelIdeal.main_arg3) = Layout.block ⟨3, ![8, 512, 1024]⟩ ⟨3, ![32, 512, 1024]⟩ 0 4 c w)
    (hp : Cert.Pre_KernelIdeal_routable_KernelIdeal m) (c : Dev Cert.KernelIdeal.nD) :
    Cert.KernelIdeal.Moe.outAt m c = Layout.block ⟨2, ![512, 1024]⟩ ⟨2, ![2048, 1024]⟩ 0 4 c (Cert.ReferenceIdeal.Moe.result (F := Ideal) x r i w) := by
  obtain ⟨⟨E, hE⟩, fx, fr⟩ := Cert.Pre_routable_KernelIdeal.Moe.domain _ _ _ _ (hp 0)
  rw [(hm 0).2.2.1] at hE
  rw [(hm 0).1] at fx
  rw [(hm 0).2.1] at fr
  funext k
  have hk : Cert.KernelIdeal.Moe.inHalf k = ix2 (⟨(k 0).val % 256, Nat.mod_lt _ (by decide)⟩ : Fin 256) (⟨(k 1).val, (k 1).isLt⟩ : Fin 1024) := by
    funext a; match a with | ⟨0, _⟩ => rfl | ⟨1, _⟩ => rfl
  unfold Cert.KernelIdeal.Moe.outAt
  rw [hk, Cert.KernelIdeal.Moe.outHalf_moe m x r i w (fun c => (hm c).1) (fun c => (hm c).2.1) (fun c => (hm c).2.2.1)
    (fun c j k n => (congrFun (hm c).2.2.2 (ix3 j k n)).trans (block_matrices c w j k n)) E hE fx fr]
  refine ((block_tokens c _ k (Cert.KernelIdeal.Moe.halfOf k) _ _ ?_ rfl).trans (Cert.ReferenceIdeal.Moe.result_apply x r i w E hE _ _)).symm
  show (k 0).val = 256 * ((k 0).val / 256) + (k 0).val % 256
  omega

/-- THE VALUE CLAIM: the kernel, over the reals, leaves on every device its block of what the reference leaves. -/
theorem algebraic : Cert.algebraic_KernelIdeal_ReferenceIdeal_pre_routable_KernelIdeal := fun m g m' g' hp hm =>
  ⟨Cert.ReferenceIdeal.Value.res_out0 m' 0,
    (θ_run Cert.KernelIdeal.defs _ _).mono
      (fun _ h c => ⟨(h.1 c (4 : Fin 5)).trans ((Cert.KernelIdeal.Moe.finalA_4 m c).trans
          ((block_eq m _ _ _ _ hm hp c).trans (congrArg (fun v => Layout.block ⟨2, ![512, 1024]⟩ ⟨2, ![2048, 1024]⟩ 0 4 c v) (Cert.ReferenceIdeal.Moe.result_eq m' 0).symm))),
        (h.1 c (0 : Fin 5)).trans (Cert.KernelIdeal.Moe.finalA_0 m c), (h.1 c (1 : Fin 5)).trans (Cert.KernelIdeal.Moe.finalA_1 m c),
        (h.1 c (2 : Fin 5)).trans (Cert.KernelIdeal.Moe.finalA_2 m c), (h.1 c (3 : Fin 5)).trans (Cert.KernelIdeal.Moe.finalA_3 m c)⟩)
      (Cert.KernelIdeal.Moe.run_main (F := Ideal) m g),
    (θ_run Cert.ReferenceIdeal.defs _ _).mono (fun _ h => h 0) (Cert.ReferenceIdeal.Value.run (F := Ideal) m' g')⟩

end Cert.Proof

end
-- ==== Proof.lean ====
/-
The certificate of `Cert.Claim`: the frames of the kernel, read bit-exactly and over the reals, and of the reference, and the
kernel's value over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts,
    Cert.Pre_routable_KernelIdeal.Moe.facts, Cert.Pre_routable_KernelIdeal.Moe.facts_ref,
    frame_kernel, frame_ideal, fun m ρ _ => frame_ideal m ρ trivial, frame_ref, fun m ρ _ => frame_ref m ρ trivial,
    trivial, algebraic⟩

end Cert.Proof

end
